-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_Dyn (m : (ℓ : Loc Cert.Dyn.nD Cert.Dyn.τ Cert.Dyn.sig) → Buf (Elt Bits) ℓ) : Prop :=
  True

def Pre_DynIdeal (m : (ℓ : Loc Cert.DynIdeal.nD Cert.DynIdeal.τ Cert.DynIdeal.sig) → Buf (Elt Ideal) ℓ) : Prop :=
  True

def Pre_DynIdeal_dy_finite [hPre_dy_finite : Cert.Pre_dy_finite.Facts] (m : (ℓ : Loc Cert.DynIdeal.nD Cert.DynIdeal.τ Cert.DynIdeal.sig) → Buf (Elt Ideal) ℓ) : Prop :=
  ∀ c : Dev Cert.DynIdeal.nD,
    (Cert.Pre_dy_finite.fn (F := Ideal) (m ((c.tc : Thread Cert.DynIdeal.nD Cert.DynIdeal.τ).loc Cert.DynIdeal.main_arg0)) (m ((c.tc : Thread Cert.DynIdeal.nD Cert.DynIdeal.τ).loc Cert.DynIdeal.main_arg1)) (m ((c.tc : Thread Cert.DynIdeal.nD Cert.DynIdeal.τ).loc Cert.DynIdeal.main_arg2))) = (fun _ => 1#1)

def Pre_DynRefIdeal (m : (ℓ : Loc Cert.DynRefIdeal.nD Cert.DynRefIdeal.τ Cert.DynRefIdeal.sig) → Buf (Elt Ideal) ℓ) : Prop :=
  True

def Pre_DynRefIdeal_dy_finite [hPre_dy_finite : Cert.Pre_dy_finite.Facts] (m : (ℓ : Loc Cert.DynRefIdeal.nD Cert.DynRefIdeal.τ Cert.DynRefIdeal.sig) → Buf (Elt Ideal) ℓ) : Prop :=
  ∀ c : Dev Cert.DynRefIdeal.nD,
    (Cert.Pre_dy_finite.fn (F := Ideal) (m ((c.tc : Thread Cert.DynRefIdeal.nD Cert.DynRefIdeal.τ).loc Cert.DynRefIdeal.main_arg0)) (m ((c.tc : Thread Cert.DynRefIdeal.nD Cert.DynRefIdeal.τ).loc Cert.DynRefIdeal.main_arg1)) (m ((c.tc : Thread Cert.DynRefIdeal.nD Cert.DynRefIdeal.τ).loc Cert.DynRefIdeal.main_arg2))) = (fun _ => 1#1)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2))
      ∧ r.2.sem = fun _ => 0)

def quiescent_Dyn [hDyn : Cert.Dyn.Facts] : Prop :=
  ∀ (m : (ℓ : Loc Cert.Dyn.nD Cert.Dyn.τ Cert.Dyn.sig) → Buf (Elt Bits) ℓ) (g : Dev Cert.Dyn.nD → PrngReg), Pre_Dyn m →
    θ_run (Cert.Dyn.defs (F := Bits)) (onTc (τ := Cert.Dyn.τ) (Cert.Dyn.main (F := Bits))) ⟨m, fun _ => 0, g⟩ (fun r => (∀ c : Dev Cert.Dyn.nD,
      r.2.mem ((c.tc : Thread Cert.Dyn.nD Cert.Dyn.τ).loc Cert.Dyn.main_arg0) = m ((c.tc : Thread Cert.Dyn.nD Cert.Dyn.τ).loc Cert.Dyn.main_arg0)
      ∧ r.2.mem ((c.tc : Thread Cert.Dyn.nD Cert.Dyn.τ).loc Cert.Dyn.main_arg1) = m ((c.tc : Thread Cert.Dyn.nD Cert.Dyn.τ).loc Cert.Dyn.main_arg1)
      ∧ r.2.mem ((c.tc : Thread Cert.Dyn.nD Cert.Dyn.τ).loc Cert.Dyn.main_arg2) = m ((c.tc : Thread Cert.Dyn.nD Cert.Dyn.τ).loc Cert.Dyn.main_arg2))
      ∧ r.2.sem = fun _ => 0)

def quiescent_DynIdeal [hDynIdeal : Cert.DynIdeal.Facts] : Prop :=
  ∀ (m : (ℓ : Loc Cert.DynIdeal.nD Cert.DynIdeal.τ Cert.DynIdeal.sig) → Buf (Elt Ideal) ℓ) (g : Dev Cert.DynIdeal.nD → PrngReg), Pre_DynIdeal m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
      ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ r.2.sem = fun _ => 0)

def quiescent_DynIdeal_pre_dy_finite [hDynIdeal : Cert.DynIdeal.Facts] [hPre_dy_finite : Cert.Pre_dy_finite.Facts] : Prop :=
  ∀ (m : (ℓ : Loc Cert.DynIdeal.nD Cert.DynIdeal.τ Cert.DynIdeal.sig) → Buf (Elt Ideal) ℓ) (g : Dev Cert.DynIdeal.nD → PrngReg), Pre_DynIdeal_dy_finite m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
      ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ r.2.sem = fun _ => 0)

def quiescent_DynRefIdeal [hDynRefIdeal : Cert.DynRefIdeal.Facts] : Prop :=
  ∀ (m : (ℓ : Loc Cert.DynRefIdeal.nD Cert.DynRefIdeal.τ Cert.DynRefIdeal.sig) → Buf (Elt Ideal) ℓ) (g : Dev Cert.DynRefIdeal.nD → PrngReg), Pre_DynRefIdeal m →
    θ_run (Cert.DynRefIdeal.defs (F := Ideal)) (onTc (τ := Cert.DynRefIdeal.τ) (Cert.DynRefIdeal.main (F := Ideal))) ⟨m, fun _ => 0, g⟩ (fun r => (∀ c : Dev Cert.DynRefIdeal.nD,
      r.2.mem ((c.tc : Thread Cert.DynRefIdeal.nD Cert.DynRefIdeal.τ).loc Cert.DynRefIdeal.main_arg0) = m ((c.tc : Thread Cert.DynRefIdeal.nD Cert.DynRefIdeal.τ).loc Cert.DynRefIdeal.main_arg0)
      ∧ r.2.mem ((c.tc : Thread Cert.DynRefIdeal.nD Cert.DynRefIdeal.τ).loc Cert.DynRefIdeal.main_arg1) = m ((c.tc : Thread Cert.DynRefIdeal.nD Cert.DynRefIdeal.τ).loc Cert.DynRefIdeal.main_arg1)
      ∧ r.2.mem ((c.tc : Thread Cert.DynRefIdeal.nD Cert.DynRefIdeal.τ).loc Cert.DynRefIdeal.main_arg2) = m ((c.tc : Thread Cert.DynRefIdeal.nD Cert.DynRefIdeal.τ).loc Cert.DynRefIdeal.main_arg2))
      ∧ r.2.sem = fun _ => 0)

def quiescent_DynRefIdeal_pre_dy_finite [hDynRefIdeal : Cert.DynRefIdeal.Facts] [hPre_dy_finite : Cert.Pre_dy_finite.Facts] : Prop :=
  ∀ (m : (ℓ : Loc Cert.DynRefIdeal.nD Cert.DynRefIdeal.τ Cert.DynRefIdeal.sig) → Buf (Elt Ideal) ℓ) (g : Dev Cert.DynRefIdeal.nD → PrngReg), Pre_DynRefIdeal_dy_finite m →
    θ_run (Cert.DynRefIdeal.defs (F := Ideal)) (onTc (τ := Cert.DynRefIdeal.τ) (Cert.DynRefIdeal.main (F := Ideal))) ⟨m, fun _ => 0, g⟩ (fun r => (∀ c : Dev Cert.DynRefIdeal.nD,
      r.2.mem ((c.tc : Thread Cert.DynRefIdeal.nD Cert.DynRefIdeal.τ).loc Cert.DynRefIdeal.main_arg0) = m ((c.tc : Thread Cert.DynRefIdeal.nD Cert.DynRefIdeal.τ).loc Cert.DynRefIdeal.main_arg0)
      ∧ r.2.mem ((c.tc : Thread Cert.DynRefIdeal.nD Cert.DynRefIdeal.τ).loc Cert.DynRefIdeal.main_arg1) = m ((c.tc : Thread Cert.DynRefIdeal.nD Cert.DynRefIdeal.τ).loc Cert.DynRefIdeal.main_arg1)
      ∧ r.2.mem ((c.tc : Thread Cert.DynRefIdeal.nD Cert.DynRefIdeal.τ).loc Cert.DynRefIdeal.main_arg2) = m ((c.tc : Thread Cert.DynRefIdeal.nD Cert.DynRefIdeal.τ).loc Cert.DynRefIdeal.main_arg2))
      ∧ r.2.sem = fun _ => 0)

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v1_0)) (v1 : (c : Dev Cert.DxIdeal.nD) → Buf (Elt Ideal) ((c.tc : Thread Cert.DxIdeal.nD Cert.DxIdeal.τ).loc Cert.DxIdeal.main_v1_1)) (v2 : (c : Dev Cert.DxIdeal.nD) → Buf (Elt Ideal) ((c.tc : Thread Cert.DxIdeal.nD Cert.DxIdeal.τ).loc Cert.DxIdeal.main_v1_2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1_0) = v0 c
          ∧ r.2.mem ((c.tc : Thread Cert.DxIdeal.nD Cert.DxIdeal.τ).loc Cert.DxIdeal.main_v1_1) = v1 c
          ∧ r.2.mem ((c.tc : Thread Cert.DxIdeal.nD Cert.DxIdeal.τ).loc Cert.DxIdeal.main_v1_2) = v2 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v9_0) = v0 c
          ∧ r.2.mem ((c.tc : Thread Cert.DxRefIdeal.nD Cert.DxRefIdeal.τ).loc Cert.DxRefIdeal.main_v9_1) = v1 c
          ∧ r.2.mem ((c.tc : Thread Cert.DxRefIdeal.nD Cert.DxRefIdeal.τ).loc Cert.DxRefIdeal.main_v9_2) = v2 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0_0)) (v1 : (c : Dev Cert.DwOutIdeal.nD) → Buf (Elt Ideal) ((c.tc : Thread Cert.DwOutIdeal.nD Cert.DwOutIdeal.τ).loc Cert.DwOutIdeal.main_v0_1)) (v2 : (c : Dev Cert.DwOutIdeal.nD) → Buf (Elt Ideal) ((c.tc : Thread Cert.DwOutIdeal.nD Cert.DwOutIdeal.τ).loc Cert.DwOutIdeal.main_v0_2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0_0) = v0 c
          ∧ r.2.mem ((c.tc : Thread Cert.DwOutIdeal.nD Cert.DwOutIdeal.τ).loc Cert.DwOutIdeal.main_v0_1) = v1 c
          ∧ r.2.mem ((c.tc : Thread Cert.DwOutIdeal.nD Cert.DwOutIdeal.τ).loc Cert.DwOutIdeal.main_v0_2) = v2 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v0_0) = v0 c
          ∧ r.2.mem ((c.tc : Thread Cert.DwOutRefIdeal.nD Cert.DwOutRefIdeal.τ).loc Cert.DwOutRefIdeal.main_v0_1) = v1 c
          ∧ r.2.mem ((c.tc : Thread Cert.DwOutRefIdeal.nD Cert.DwOutRefIdeal.τ).loc Cert.DwOutRefIdeal.main_v0_2) = v2 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)) →
    ∃ (v0 : (c : Dev Cert.DwQkvIdeal.nD) → Buf (Elt Ideal) ((c.tc : Thread Cert.DwQkvIdeal.nD Cert.DwQkvIdeal.τ).loc Cert.DwQkvIdeal.main_v1_0)) (v1 : (c : Dev Cert.DwQkvIdeal.nD) → Buf (Elt Ideal) ((c.tc : Thread Cert.DwQkvIdeal.nD Cert.DwQkvIdeal.τ).loc Cert.DwQkvIdeal.main_v1_1)) (v2 : (c : Dev Cert.DwQkvIdeal.nD) → Buf (Elt Ideal) ((c.tc : Thread Cert.DwQkvIdeal.nD Cert.DwQkvIdeal.τ).loc Cert.DwQkvIdeal.main_v1_2)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v1_0) = v0 c
          ∧ r.2.mem ((c.tc : Thread Cert.DwQkvIdeal.nD Cert.DwQkvIdeal.τ).loc Cert.DwQkvIdeal.main_v1_1) = v1 c
          ∧ r.2.mem ((c.tc : Thread Cert.DwQkvIdeal.nD Cert.DwQkvIdeal.τ).loc Cert.DwQkvIdeal.main_v1_2) = v2 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v9_0) = v0 c
          ∧ r.2.mem ((c.tc : Thread Cert.DwQkvRefIdeal.nD Cert.DwQkvRefIdeal.τ).loc Cert.DwQkvRefIdeal.main_v9_1) = v1 c
          ∧ r.2.mem ((c.tc : Thread Cert.DwQkvRefIdeal.nD Cert.DwQkvRefIdeal.τ).loc Cert.DwQkvRefIdeal.main_v9_2) = v2 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2))

def preserves_Dyn_DynIdeal : Prop :=
  True

def algebraic_DynIdeal_DynRefIdeal_pre_dy_finite [hDynIdeal : Cert.DynIdeal.Facts] [hDynRefIdeal : Cert.DynRefIdeal.Facts] [hPre_dy_finite : Cert.Pre_dy_finite.Facts] : Prop :=
  ∀ (m : (ℓ : Loc Cert.DynIdeal.nD Cert.DynIdeal.τ Cert.DynIdeal.sig) → Buf (Elt Ideal) ℓ) (g : Dev Cert.DynIdeal.nD → PrngReg)
    (m' : (ℓ : Loc Cert.DynRefIdeal.nD Cert.DynRefIdeal.τ Cert.DynRefIdeal.sig) → Buf (Elt Ideal) ℓ) (g' : Dev Cert.DynRefIdeal.nD → PrngReg), Pre_DynIdeal_dy_finite m →
    (∀ c : Dev Cert.DynIdeal.nD,
      m' ((c.tc : Thread Cert.DynRefIdeal.nD Cert.DynRefIdeal.τ).loc Cert.DynRefIdeal.main_arg0) = m ((c.tc : Thread Cert.DynIdeal.nD Cert.DynIdeal.τ).loc Cert.DynIdeal.main_arg0)
      ∧ m' ((c.tc : Thread Cert.DynRefIdeal.nD Cert.DynRefIdeal.τ).loc Cert.DynRefIdeal.main_arg1) = m ((c.tc : Thread Cert.DynIdeal.nD Cert.DynIdeal.τ).loc Cert.DynIdeal.main_arg1)
      ∧ m' ((c.tc : Thread Cert.DynRefIdeal.nD Cert.DynRefIdeal.τ).loc Cert.DynRefIdeal.main_arg2) = m ((c.tc : Thread Cert.DynIdeal.nD Cert.DynIdeal.τ).loc Cert.DynIdeal.main_arg2)) →
    ∃ (v0 : (c : Dev Cert.DynIdeal.nD) → Buf (Elt Ideal) ((c.tc : Thread Cert.DynIdeal.nD Cert.DynIdeal.τ).loc Cert.DynIdeal.main_v1_0)) (v1 : (c : Dev Cert.DynIdeal.nD) → Buf (Elt Ideal) ((c.tc : Thread Cert.DynIdeal.nD Cert.DynIdeal.τ).loc Cert.DynIdeal.main_v1_1)) (v2 : (c : Dev Cert.DynIdeal.nD) → Buf (Elt Ideal) ((c.tc : Thread Cert.DynIdeal.nD Cert.DynIdeal.τ).loc Cert.DynIdeal.main_v1_2)) (v3 : (c : Dev Cert.DynIdeal.nD) → Buf (Elt Ideal) ((c.tc : Thread Cert.DynIdeal.nD Cert.DynIdeal.τ).loc Cert.DynIdeal.main_v1_3)),
      θ_run (Cert.DynIdeal.defs (F := Ideal)) (onTc (τ := Cert.DynIdeal.τ) (Cert.DynIdeal.main (F := Ideal))) ⟨m, fun _ => 0, g⟩ (fun r => ∀ c : Dev Cert.DynIdeal.nD,
          r.2.mem ((c.tc : Thread Cert.DynIdeal.nD Cert.DynIdeal.τ).loc Cert.DynIdeal.main_v1_0) = v0 c
          ∧ r.2.mem ((c.tc : Thread Cert.DynIdeal.nD Cert.DynIdeal.τ).loc Cert.DynIdeal.main_v1_1) = v1 c
          ∧ r.2.mem ((c.tc : Thread Cert.DynIdeal.nD Cert.DynIdeal.τ).loc Cert.DynIdeal.main_v1_2) = v2 c
          ∧ r.2.mem ((c.tc : Thread Cert.DynIdeal.nD Cert.DynIdeal.τ).loc Cert.DynIdeal.main_v1_3) = v3 c
          ∧ r.2.mem ((c.tc : Thread Cert.DynIdeal.nD Cert.DynIdeal.τ).loc Cert.DynIdeal.main_arg0) = m ((c.tc : Thread Cert.DynIdeal.nD Cert.DynIdeal.τ).loc Cert.DynIdeal.main_arg0)
          ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
          ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ θ_run (Cert.DynRefIdeal.defs (F := Ideal)) (onTc (τ := Cert.DynRefIdeal.τ) (Cert.DynRefIdeal.main (F := Ideal))) ⟨m', fun _ => 0, g'⟩ (fun r => ∀ c : Dev Cert.DynRefIdeal.nD,
          r.2.mem ((c.tc : Thread Cert.DynRefIdeal.nD Cert.DynRefIdeal.τ).loc Cert.DynRefIdeal.main_v1_0) = v0 c
          ∧ r.2.mem ((c.tc : Thread Cert.DynRefIdeal.nD Cert.DynRefIdeal.τ).loc Cert.DynRefIdeal.main_v1_1) = v1 c
          ∧ r.2.mem ((c.tc : Thread Cert.DynRefIdeal.nD Cert.DynRefIdeal.τ).loc Cert.DynRefIdeal.main_v1_2) = v2 c
          ∧ r.2.mem ((c.tc : Thread Cert.DynRefIdeal.nD Cert.DynRefIdeal.τ).loc Cert.DynRefIdeal.main_v1_3) = v3 c
          ∧ r.2.mem ((c.tc : Thread Cert.DynRefIdeal.nD Cert.DynRefIdeal.τ).loc Cert.DynRefIdeal.main_arg0) = m' ((c.tc : Thread Cert.DynRefIdeal.nD Cert.DynRefIdeal.τ).loc Cert.DynRefIdeal.main_arg0)
          ∧ r.2.mem ((c.tc : Thread Cert.DynRefIdeal.nD Cert.DynRefIdeal.τ).loc Cert.DynRefIdeal.main_arg1) = m' ((c.tc : Thread Cert.DynRefIdeal.nD Cert.DynRefIdeal.τ).loc Cert.DynRefIdeal.main_arg1)
          ∧ r.2.mem ((c.tc : Thread Cert.DynRefIdeal.nD Cert.DynRefIdeal.τ).loc Cert.DynRefIdeal.main_arg2) = m' ((c.tc : Thread Cert.DynRefIdeal.nD Cert.DynRefIdeal.τ).loc Cert.DynRefIdeal.main_arg2))

def Claim : Prop :=
  ∃ (hDx : Cert.Dx.Facts) (hDxIdeal : Cert.DxIdeal.Facts) (hDxRefIdeal : Cert.DxRefIdeal.Facts) (hDwOut : Cert.DwOut.Facts) (hDwOutIdeal : Cert.DwOutIdeal.Facts) (hDwOutRefIdeal : Cert.DwOutRefIdeal.Facts) (hDwQkv : Cert.DwQkv.Facts) (hDwQkvIdeal : Cert.DwQkvIdeal.Facts) (hDwQkvRefIdeal : Cert.DwQkvRefIdeal.Facts) (hDyn : Cert.Dyn.Facts) (hDynIdeal : Cert.DynIdeal.Facts) (hDynRefIdeal : Cert.DynRefIdeal.Facts) (hPre_dy_finite : Cert.Pre_dy_finite.Facts),
    quiescent_Dx (hDx := hDx)
    ∧ quiescent_DxIdeal (hDxIdeal := hDxIdeal)
    ∧ quiescent_DxRefIdeal (hDxRefIdeal := hDxRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_Dyn (hDyn := hDyn)
    ∧ quiescent_DynIdeal (hDynIdeal := hDynIdeal)
    ∧ quiescent_DynIdeal_pre_dy_finite (hDynIdeal := hDynIdeal) (hPre_dy_finite := hPre_dy_finite)
    ∧ quiescent_DynRefIdeal (hDynRefIdeal := hDynRefIdeal)
    ∧ quiescent_DynRefIdeal_pre_dy_finite (hDynRefIdeal := hDynRefIdeal) (hPre_dy_finite := hPre_dy_finite)
    ∧ preserves_Dx_DxIdeal
    ∧ algebraic_DxIdeal_DxRefIdeal (hDxIdeal := hDxIdeal) (hDxRefIdeal := hDxRefIdeal)
    ∧ preserves_DwOut_DwOutIdeal
    ∧ algebraic_DwOutIdeal_DwOutRefIdeal (hDwOutIdeal := hDwOutIdeal) (hDwOutRefIdeal := hDwOutRefIdeal)
    ∧ preserves_DwQkv_DwQkvIdeal
    ∧ algebraic_DwQkvIdeal_DwQkvRefIdeal (hDwQkvIdeal := hDwQkvIdeal) (hDwQkvRefIdeal := hDwQkvRefIdeal)
    ∧ preserves_Dyn_DynIdeal
    ∧ algebraic_DynIdeal_DynRefIdeal_pre_dy_finite (hDynIdeal := hDynIdeal) (hDynRefIdeal := hDynRefIdeal) (hPre_dy_finite := hPre_dy_finite)
-- ==== Pre_dy_finite.lean ====
abbrev S2048x2048 : Shape := ⟨2, ![2048, 2048]⟩
abbrev S3072x2048 : Shape := ⟨2, ![3072, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .bf16) (main_arg1 : FVec F S3072x2048 .fp8e4m3) (main_arg2 : FVec F S_ .f32) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F7F0000#32
  let main_v2 : FVec F S2048x2048 .f32 := broadcastInDim S2048x2048 ![] bcast_S_S2048x2048 main_cst
  let main_v3 : IVec S2048x2048 1 := cmpf .ole main_v1 main_v2
  let main_c : IVec S_ 1 := constantI S_ 1 1#1
  let main_v4 : IVec S_ 1 := (fun x v => Host.reduce IntOp.andi x v reducesTo_S2048x2048_S_d0_1 h_S_) main_v3 main_c
  main_v4
-- ==== Dx.lean ====
abbrev S2048x6144 : Shape := ⟨2, ![2048, 6144]⟩
abbrev S_ : Shape := ⟨0, ![]⟩
abbrev S1 : Shape := ⟨1, ![1]⟩
abbrev S2048x2048 : Shape := ⟨2, ![2048, 2048]⟩
abbrev S8x1x256 : Shape := ⟨3, ![8, 1, 256]⟩
abbrev S256x6144 : Shape := ⟨2, ![256, 6144]⟩
abbrev S256x2048 : Shape := ⟨2, ![256, 2048]⟩
abbrev S1x1x256 : Shape := ⟨3, ![1, 1, 256]⟩
abbrev S256 : Shape := ⟨1, ![256]⟩
abbrev S256x1 : Shape := ⟨2, ![256, 1]⟩
abbrev S256x256 : Shape := ⟨2, ![256, 256]⟩
abbrev S256x512 : Shape := ⟨2, ![256, 512]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x256 : Shape := ⟨2, ![1, 256]⟩

abbrev nBuf : Space → Nat
  | .hbm => 7
  | .vmem => 9
  | .smem => 1
  | _ => 0

abbrev bufTy : (tb : Table) → Fin (tcTables nBuf tb) → BufTy
  | .hbm, ⟨0, _⟩ => ⟨S2048x6144, .f32⟩
  | .hbm, ⟨1, _⟩ => ⟨S2048x6144, .fp8e4m3⟩
  | .hbm, ⟨2, _⟩ => ⟨S_, .f32⟩
  | .hbm, ⟨3, _⟩ => ⟨S1, .f32⟩
  | .hbm, ⟨4, _⟩ => ⟨S2048x2048, .bf16⟩
  | .hbm, ⟨5, _⟩ => ⟨S2048x6144, .fp8e5m2⟩
  | .hbm, ⟨6, _⟩ => ⟨S8x1x256, .f32⟩
  | .local _ .vmem, ⟨0, _⟩ => ⟨S256x6144, .f32⟩
  | .local _ .vmem, ⟨1, _⟩ => ⟨S256x6144, .f32⟩
  | .local _ .vmem, ⟨2, _⟩ => ⟨S2048x6144, .fp8e4m3⟩
  | .local _ .vmem, ⟨3, _⟩ => ⟨S256x2048, .bf16⟩
  | .local _ .vmem, ⟨4, _⟩ => ⟨S256x2048, .bf16⟩
  | .local _ .vmem, ⟨5, _⟩ => ⟨S256x6144, .fp8e5m2⟩
  | .local _ .vmem, ⟨6, _⟩ => ⟨S256x6144, .fp8e5m2⟩
  | .local _ .vmem, ⟨7, _⟩ => ⟨S1x1x256, .f32⟩
  | .local _ .vmem, ⟨8, _⟩ => ⟨S1x1x256, .f32⟩
  | .local _ .smem, ⟨0, _⟩ => ⟨S1, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x6144 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DxRefIdeal.lean ====
abbrev S2048x6144 : Shape := ⟨2, ![2048, 6144]⟩
abbrev S_ : Shape := ⟨0, ![]⟩
abbrev S2048x6x1024 : Shape := ⟨3, ![2048, 6, 1024]⟩
abbrev S2048x6x256 : Shape := ⟨3, ![2048, 6, 256]⟩
abbrev S2048x1536 : Shape := ⟨2, ![2048, 1536]⟩
abbrev S2048x6x512 : Shape := ⟨3, ![2048, 6, 512]⟩
abbrev S2048x3072 : Shape := ⟨2, ![2048, 3072]⟩
abbrev S1x1 : Shape := ⟨2, ![1, 1]⟩
abbrev S2048x2048 : Shape := ⟨2, ![2048, 2048]⟩
abbrev S8x1x256 : Shape := ⟨3, ![8, 1, 256]⟩
abbrev S2048 : Shape := ⟨1, ![2048]⟩
abbrev S2048x1 : Shape := ⟨2, ![2048, 1]⟩

abbrev nBuf : Space → Nat
  | .hbm => 15
  | .vmem => 6
  | .smem => 0
  | _ => 0

abbrev bufTy : (tb : Table) → Fin (tcTables nBuf tb) → BufTy
  | .hbm, ⟨0, _⟩ => ⟨S2048x6144, .f32⟩
  | .hbm, ⟨1, _⟩ => ⟨S2048x6144, .fp8e4m3⟩
  | .hbm, ⟨2, _⟩ => ⟨S_, .f32⟩
  | .hbm, ⟨3, _⟩ => ⟨S2048x6x1024, .f32⟩
  | .hbm, ⟨4, _⟩ => ⟨S2048x6x256, .f32⟩
  | .hbm, ⟨5, _⟩ => ⟨S2048x1536, .f32⟩
  | .hbm, ⟨6, _⟩ => ⟨S2048x6x256, .f32⟩
  | .hbm, ⟨7, _⟩ => ⟨S2048x1536, .f32⟩
  | .hbm, ⟨8, _⟩ => ⟨S2048x6x512, .f32⟩
  | .hbm, ⟨9, _⟩ => ⟨S2048x3072, .f32⟩
  | .hbm, ⟨10, _⟩ => ⟨S2048x6144, .f32⟩
  | .hbm, ⟨11, _⟩ => ⟨S1x1, .f32⟩
  | .hbm, ⟨12, _⟩ => ⟨S2048x2048, .bf16⟩
  | .hbm, ⟨13, _⟩ => ⟨S2048x6144, .fp8e5m2⟩
  | .hbm, ⟨14, _⟩ => ⟨S8x1x256, .f32⟩
  | .local _ .vmem, ⟨0, _⟩ => ⟨S1x1, .f32⟩
  | .local _ .vmem, ⟨1, _⟩ => ⟨S2048x6144, .f32⟩
  | .local _ .vmem, ⟨2, _⟩ => ⟨S2048x6144, .fp8e4m3⟩
  | .local _ .vmem, ⟨3, _⟩ => ⟨S2048x2048, .bf16⟩
  | .local _ .vmem, ⟨4, _⟩ => ⟨S2048x6144, .fp8e5m2⟩
  | .local _ .vmem, ⟨5, _⟩ => ⟨S8x1x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x6144 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DwOut.lean ====
abbrev S2048x3072 : Shape := ⟨2, ![2048, 3072]⟩
abbrev S2048x2048 : Shape := ⟨2, ![2048, 2048]⟩
abbrev S1x3072 : Shape := ⟨2, ![1, 3072]⟩
abbrev S3072x2048 : Shape := ⟨2, ![3072, 2048]⟩
abbrev S2048x256 : Shape := ⟨2, ![2048, 256]⟩
abbrev S1x256 : Shape := ⟨2, ![1, 256]⟩
abbrev S256x2048 : Shape := ⟨2, ![256, 2048]⟩
abbrev S256 : Shape := ⟨1, ![256]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x3072, .f32⟩
  | .hbm, ⟨1, _⟩ => ⟨S2048x2048, .bf16⟩
  | .hbm, ⟨2, _⟩ => ⟨S2048x3072, .fp8e4m3⟩
  | .hbm, ⟨3, _⟩ => ⟨S1x3072, .f32⟩
  | .hbm, ⟨4, _⟩ => ⟨S3072x2048, .f32⟩
  | .local _ .vmem, ⟨0, _⟩ => ⟨S2048x256, .f32⟩
  | .local _ .vmem, ⟨1, _⟩ => ⟨S2048x256, .f32⟩
  | .local _ .vmem, ⟨2, _⟩ => ⟨S2048x2048, .bf16⟩
  | .local _ .vmem, ⟨3, _⟩ => ⟨S2048x256, .fp8e4m3⟩
  | .local _ .vmem, ⟨4, _⟩ => ⟨S2048x256, .fp8e4m3⟩
  | .local _ .vmem, ⟨5, _⟩ => ⟨S1x256, .f32⟩
  | .local _ .vmem, ⟨6, _⟩ => ⟨S1x256, .f32⟩
  | .local _ .vmem, ⟨7, _⟩ => ⟨S256x2048, .f32⟩
  | .local _ .vmem, ⟨8, _⟩ => ⟨S256x2048, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DwOutRefIdeal.lean ====
abbrev S2048x3072 : Shape := ⟨2, ![2048, 3072]⟩
abbrev S2048x2048 : Shape := ⟨2, ![2048, 2048]⟩
abbrev S1x3072 : Shape := ⟨2, ![1, 3072]⟩
abbrev S3072x2048 : Shape := ⟨2, ![3072, 2048]⟩
abbrev S3072 : Shape := ⟨1, ![3072]⟩
abbrev S3072x1 : Shape := ⟨2, ![3072, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x3072, .f32⟩
  | .hbm, ⟨1, _⟩ => ⟨S2048x2048, .bf16⟩
  | .hbm, ⟨2, _⟩ => ⟨S2048x3072, .fp8e4m3⟩
  | .hbm, ⟨3, _⟩ => ⟨S1x3072, .f32⟩
  | .hbm, ⟨4, _⟩ => ⟨S3072x2048, .f32⟩
  | .local _ .vmem, ⟨0, _⟩ => ⟨S2048x3072, .f32⟩
  | .local _ .vmem, ⟨1, _⟩ => ⟨S2048x2048, .bf16⟩
  | .local _ .vmem, ⟨2, _⟩ => ⟨S2048x3072, .fp8e4m3⟩
  | .local _ .vmem, ⟨3, _⟩ => ⟨S1x3072, .f32⟩
  | .local _ .vmem, ⟨4, _⟩ => ⟨S3072x2048, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwQkv.lean ====
abbrev S2048x6144 : Shape := ⟨2, ![2048, 6144]⟩
abbrev S2048x2048 : Shape := ⟨2, ![2048, 2048]⟩
abbrev S2x1024 : Shape := ⟨2, ![2, 1024]⟩
abbrev S2048x1 : Shape := ⟨2, ![2048, 1]⟩
abbrev S1x6144 : Shape := ⟨2, ![1, 6144]⟩
abbrev S2048x256 : Shape := ⟨2, ![2048, 256]⟩
abbrev S1x256 : Shape := ⟨2, ![1, 256]⟩
abbrev S256x1 : Shape := ⟨2, ![256, 1]⟩
abbrev S256x2048 : Shape := ⟨2, ![256, 2048]⟩
abbrev S256 : Shape := ⟨1, ![256]⟩

abbrev nBuf : Space → Nat
  | .hbm => 7
  | .vmem => 11
  | .smem => 0
  | _ => 0

abbrev bufTy : (tb : Table) → Fin (tcTables nBuf tb) → BufTy
  | .hbm, ⟨0, _⟩ => ⟨S2048x6144, .f32⟩
  | .hbm, ⟨1, _⟩ => ⟨S2048x2048, .fp8e4m3⟩
  | .hbm, ⟨2, _⟩ => ⟨S2x1024, .f32⟩
  | .hbm, ⟨3, _⟩ => ⟨S2048x1, .f32⟩
  | .hbm, ⟨4, _⟩ => ⟨S2048x6144, .fp8e5m2⟩
  | .hbm, ⟨5, _⟩ => ⟨S1x6144, .f32⟩
  | .hbm, ⟨6, _⟩ => ⟨S2048x6144, .f32⟩
  | .local _ .vmem, ⟨0, _⟩ => ⟨S2048x1, .f32⟩
  | .local _ .vmem, ⟨1, _⟩ => ⟨S2048x2048, .fp8e4m3⟩
  | .local _ .vmem, ⟨2, _⟩ => ⟨S2048x256, .f32⟩
  | .local _ .vmem, ⟨3, _⟩ => ⟨S2048x256, .f32⟩
  | .local _ .vmem, ⟨4, _⟩ => ⟨S2048x256, .fp8e5m2⟩
  | .local _ .vmem, ⟨5, _⟩ => ⟨S2048x256, .fp8e5m2⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x2048, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c6_i32 : BitVec 32 := 6#32
  let v0 : BitVec 32 := Scalar.subi arg0 c6_i32
  let c4_i32 : BitVec 32 := 4#32
  let v1 : BitVec 32 := Scalar.muli c4_i32 v0
  let c1_i32 : BitVec 32 := 1#32
  let v2 : BitVec 32 := Scalar.addi v1 c1_i32
  let c12_i32 : BitVec 32 := 12#32
  let v3 : BitVec 32 := Scalar.subi arg0 c12_i32
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c4_i32_5 : BitVec 32 := 4#32
  let v21 : BitVec 32 := Scalar.muli c4_i32_5 v20
  let c2_i32_6 : BitVec 32 := 2#32
  let v22 : BitVec 32 := Scalar.addi v21 c2_i32_6
  let c2_i32_7 : BitVec 32 := 2#32
  let c0_i32_8 : BitVec 32 := 0#32
  let v23 : BitVec 1 := Scalar.cmpi .eq c2_i32_7 c0_i32_8
  let c1_i32_9 : BitVec 32 := 1#32
  let v24 : BitVec 32 := Scalar.select v23 c1_i32_9 c2_i32_7
  let v25 : BitVec 32 := Scalar.remsi v3 v24
  let c0_i32_10 : BitVec 32 := 0#32
  let v26 : BitVec 1 := Scalar.cmpi .ne v25 c0_i32_10
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let v30 : BitVec 1 := Scalar.andi v29 v26
  let v31 : BitVec 32 := Scalar.addi v25 v24
  let v32 : BitVec 32 := Scalar.select v30 v31 v25
  let v33 : BitVec 32 := Scalar.addi v22 v32
  let c6_i32_13 : BitVec 32 := 6#32
  let v34 : BitVec 1 := Scalar.cmpi .slt arg0 c6_i32_13
  let c4_i32_14 : BitVec 32 := 4#32
  let v35 : BitVec 32 := Scalar.muli c4_i32_14 arg0
  let c12_i32_15 : BitVec 32 := 12#32
  let v36 : BitVec 1 := Scalar.cmpi .slt arg0 c12_i32_15
  let v37 : BitVec 32 := Scalar.select v36 v2 v33
  let v38 : BitVec 32 := Scalar.select v34 v35 v37
  let c0_i32_16 : BitVec 32 := 0#32
  let c0_i32_17 : BitVec 32 := 0#32
  ![c0_i32_16.toNat, v38.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DwQkvRefIdeal.lean ====
abbrev S2048x6144 : Shape := ⟨2, ![2048, 6144]⟩
abbrev S2048x2048 : Shape := ⟨2, ![2048, 2048]⟩
abbrev S2x1024 : Shape := ⟨2, ![2, 1024]⟩
abbrev S2048x6x1024 : Shape := ⟨3, ![2048, 6, 1024]⟩
abbrev S2048x6x256 : Shape := ⟨3, ![2048, 6, 256]⟩
abbrev S2048x1536 : Shape := ⟨2, ![2048, 1536]⟩
abbrev S2048x6x512 : Shape := ⟨3, ![2048, 6, 512]⟩
abbrev S2048x3072 : Shape := ⟨2, ![2048, 3072]⟩
abbrev S2048x1 : Shape := ⟨2, ![2048, 1]⟩
abbrev S1x6144 : Shape := ⟨2, ![1, 6144]⟩
abbrev S6144 : Shape := ⟨1, ![6144]⟩

abbrev nBuf : Space → Nat
  | .hbm => 15
  | .vmem => 6
  | .smem => 0
  | _ => 0

abbrev bufTy : (tb : Table) → Fin (tcTables nBuf tb) → BufTy
  | .hbm, ⟨0, _⟩ => ⟨S2048x6144, .f32⟩
  | .hbm, ⟨1, _⟩ => ⟨S2048x2048, .fp8e4m3⟩
  | .hbm, ⟨2, _⟩ => ⟨S2x1024, .f32⟩
  | .hbm, ⟨3, _⟩ => ⟨S2048x6x1024, .f32⟩
  | .hbm, ⟨4, _⟩ => ⟨S2048x6x256, .f32⟩
  | .hbm, ⟨5, _⟩ => ⟨S2048x1536, .f32⟩
  | .hbm, ⟨6, _⟩ => ⟨S2048x6x256, .f32⟩
  | .hbm, ⟨7, _⟩ => ⟨S2048x1536, .f32⟩
  | .hbm, ⟨8, _⟩ => ⟨S2048x6x512, .f32⟩
  | .hbm, ⟨9, _⟩ => ⟨S2048x3072, .f32⟩
  | .hbm, ⟨10, _⟩ => ⟨S2048x6144, .f32⟩
  | .hbm, ⟨11, _⟩ => ⟨S2048x1, .f32⟩
  | .hbm, ⟨12, _⟩ => ⟨S2048x6144, .fp8e5m2⟩
  | .hbm, ⟨13, _⟩ => ⟨S1x6144, .f32⟩
  | .hbm, ⟨14, _⟩ => ⟨S2048x6144, .f32⟩
  | .local _ .vmem, ⟨0, _⟩ => ⟨S2048x1, .f32⟩
  | .local _ .vmem, ⟨1, _⟩ => ⟨S2048x2048, .fp8e4m3⟩
  | .local _ .vmem, ⟨2, _⟩ => ⟨S2048x6144, .f32⟩
  | .local _ .vmem, ⟨3, _⟩ => ⟨S2048x6144, .fp8e5m2⟩
  | .local _ .vmem, ⟨4, _⟩ => ⟨S1x6144, .f32⟩
  | .local _ .vmem, ⟨5, _⟩ => ⟨S2048x6144, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x6144 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Dyn.lean ====
abbrev S2048x2048 : Shape := ⟨2, ![2048, 2048]⟩
abbrev S3072x2048 : Shape := ⟨2, ![3072, 2048]⟩
abbrev S_ : Shape := ⟨0, ![]⟩
abbrev S1 : Shape := ⟨1, ![1]⟩
abbrev S2048x3072 : Shape := ⟨2, ![2048, 3072]⟩
abbrev S8x1x256 : Shape := ⟨3, ![8, 1, 256]⟩
abbrev S256x2048 : Shape := ⟨2, ![256, 2048]⟩
abbrev S256x3072 : Shape := ⟨2, ![256, 3072]⟩
abbrev S1x1x256 : Shape := ⟨3, ![1, 1, 256]⟩
abbrev S256 : Shape := ⟨1, ![256]⟩
abbrev S256x1 : Shape := ⟨2, ![256, 1]⟩
abbrev S1x255 : Shape := ⟨2, ![1, 255]⟩
abbrev S256x255 : Shape := ⟨2, ![256, 255]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x256 : Shape := ⟨2, ![1, 256]⟩

abbrev nBuf : Space → Nat
  | .hbm => 8
  | .vmem => 11
  | .smem => 1
  | _ => 0

abbrev bufTy : (tb : Table) → Fin (tcTables nBuf tb) → BufTy
  | .hbm, ⟨0, _⟩ => ⟨S2048x2048, .bf16⟩
  | .hbm, ⟨1, _⟩ => ⟨S3072x2048, .fp8e4m3⟩
  | .hbm, ⟨2, _⟩ => ⟨S_, .f32⟩
  | .hbm, ⟨3, _⟩ => ⟨S1, .f32⟩
  | .hbm, ⟨4, _⟩ => ⟨S2048x3072, .f32⟩
  | .hbm, ⟨5, _⟩ => ⟨S2048x2048, .fp8e5m2⟩
  | .hbm, ⟨6, _⟩ => ⟨S8x1x256, .f32⟩
  | .hbm, ⟨7, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S3072x2048, .fp8e4m3⟩
  | .local _ .vmem, ⟨3, _⟩ => ⟨S256x3072, .f32⟩
  | .local _ .vmem, ⟨4, _⟩ => ⟨S256x3072, .f32⟩
  | .local _ .vmem, ⟨5, _⟩ => ⟨S256x2048, .fp8e5m2⟩
  | .local _ .vmem, ⟨6, _⟩ => ⟨S256x2048, .fp8e5m2⟩
  | .local _ .vmem, ⟨7, _⟩ => ⟨S1x1x256, .f32⟩
  | .local _ .vmem, ⟨8, _⟩ => ⟨S1x1x256, .f32⟩
  | .local _ .vmem, ⟨9, _⟩ => ⟨S256x2048, .bf16⟩
  | .local _ .vmem, ⟨10, _⟩ => ⟨S256x2048, .bf16⟩
  | .local _ .smem, ⟨0, _⟩ => ⟨S1, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DynRefIdeal.lean ====
abbrev S2048x2048 : Shape := ⟨2, ![2048, 2048]⟩
abbrev S3072x2048 : Shape := ⟨2, ![3072, 2048]⟩
abbrev S_ : Shape := ⟨0, ![]⟩
abbrev S1x1 : Shape := ⟨2, ![1, 1]⟩
abbrev S2048x3072 : Shape := ⟨2, ![2048, 3072]⟩
abbrev S8x1x256 : Shape := ⟨3, ![8, 1, 256]⟩
abbrev S2048 : Shape := ⟨1, ![2048]⟩
abbrev S1x254 : Shape := ⟨2, ![1, 254]⟩
abbrev S2048x1 : Shape := ⟨2, ![2048, 1]⟩
abbrev S2048x254 : Shape := ⟨2, ![2048, 254]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S3072x2048, .fp8e4m3⟩
  | .hbm, ⟨2, _⟩ => ⟨S_, .f32⟩
  | .hbm, ⟨3, _⟩ => ⟨S1x1, .f32⟩
  | .hbm, ⟨4, _⟩ => ⟨S2048x3072, .f32⟩
  | .hbm, ⟨5, _⟩ => ⟨S2048x2048, .fp8e5m2⟩
  | .hbm, ⟨6, _⟩ => ⟨S8x1x256, .f32⟩
  | .hbm, ⟨7, _⟩ => ⟨S2048x2048, .bf16⟩
  | .local _ .vmem, ⟨0, _⟩ => ⟨S1x1, .f32⟩
  | .local _ .vmem, ⟨1, _⟩ => ⟨S2048x2048, .bf16⟩
  | .local _ .vmem, ⟨2, _⟩ => ⟨S3072x2048, .fp8e4m3⟩
  | .local _ .vmem, ⟨3, _⟩ => ⟨S2048x3072, .f32⟩
  | .local _ .vmem, ⟨4, _⟩ => ⟨S2048x2048, .fp8e5m2⟩
  | .local _ .vmem, ⟨5, _⟩ => ⟨S8x1x256, .f32⟩
  | .local _ .vmem, ⟨6, _⟩ => ⟨S2048x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Quant.lean ====
/- The quantiser of the claims read over the extended reals: the largest absolute value of a row or column, the scale taken
   from it, the clipped code of an element, and the choice of one element by a diagonal mask. -/
module

public import Idealize.ShloMosaic.Lib.Pointwise
public import Idealize.ShloMosaic.Lib.Pipeline.Value

@[expose] public section

noncomputable section

namespace Cert.Quant

open Idealize.ShloMosaic

/-- The largest absolute value of a family. -/
def amax {n : Nat} (f : Fin n → EReal) : EReal :=
  Finset.univ.fold max (Ideal.ofBits .f32 0xFF800000#32) fun k => FloatOps.absf (F := Ideal) (φ := .f32) (f k)

/-- The scale for the largest absolute value `a`: `a` over the format's largest value `top`, or one where `a` is zero. -/
def scale (top : BitVec 32) (a : EReal) : EReal := if a = 0 then 1 else Ideal.div a (Ideal.ofBits .f32 top)

/-- The code of `v` under the scale `s`: the quotient clipped to `[lo, hi]`. -/
def code (lo hi : BitVec 32) (v s : EReal) : EReal := min (Ideal.ofBits .f32 hi) (max (Ideal.ofBits .f32 lo) (Ideal.div v s))

/-- Two 32-bit words of numbers below 2³² compare equal exactly when the numbers are. -/
theorem cmpi_ofNat (a b : Nat) (ha : a < 4294967296) (hb : b < 4294967296) :
    IntOp.cmpi .eq (BitVec.ofNat 32 a) (BitVec.ofNat 32 b) = if a = b then 1#1 else 0#1 := by
  by_cases h : a = b
  · subst h; simp [IntOp.cmpi]
  · have : BitVec.ofNat 32 a ≠ BitVec.ofNat 32 b := fun e => h (by
      have := congrArg BitVec.toNat e
      simp only [BitVec.toNat_ofNat] at this
      omega)
    rw [if_neg h]
    show BitVec.ofBool (BitVec.ofNat 32 a == BitVec.ofNat 32 b) = 0#1
    rw [beq_eq_false_iff_ne.mpr this]; rfl

/-- A sum over a row from which a mask takes the one element at column `a` is that element. -/
theorem sum_pick {n : Nat} (hn : n < 4294967296) (a : Nat) (ha : a < n) (f : Fin n → EReal) :
    (∑ k : Fin n, Scalar.select (IntOp.cmpi .eq (BitVec.ofNat 32 a) (BitVec.ofNat 32 k.val)) (f k) 0) = f ⟨a, ha⟩ := by
  rw [Finset.sum_eq_single (⟨a, ha⟩ : Fin n)]
  · rw [cmpi_ofNat a a (by omega) (by omega), if_pos rfl]; rfl
  · intro k _ hk
    have : a ≠ k.val := fun e => hk (Fin.ext e.symm)
    rw [cmpi_ofNat a k.val (by omega) (by omega), if_neg this]; rfl
  · intro h; exact absurd (Finset.mem_univ _) h

/-- The same with the two numbers compared the other way round. -/
theorem sum_pick' {n : Nat} (hn : n < 4294967296) (a : Nat) (ha : a < n) (f : Fin n → EReal) :
    (∑ k : Fin n, Scalar.select (IntOp.cmpi .eq (BitVec.ofNat 32 k.val) (BitVec.ofNat 32 a)) (f k) 0) = f ⟨a, ha⟩ := by
  rw [Finset.sum_eq_single (⟨a, ha⟩ : Fin n)]
  · rw [cmpi_ofNat a a (by omega) (by omega), if_pos rfl]; rfl
  · intro k _ hk
    have : k.val ≠ a := fun e => hk (Fin.ext e)
    rw [cmpi_ofNat k.val a (by omega) (by omega), if_neg this]; rfl
  · intro h; exact absurd (Finset.mem_univ _) h

/-- The maximum over the rows of a matrix's absolute values is, at each column, the column's largest absolute value. -/
theorem colmax {m n : Nat} (v : (⟨2, ![m, n]⟩ : Shape).Idx → EReal) (h : (⟨2, ![m, n]⟩ : Shape).Reduces [0] ⟨1, ![n]⟩)
    (hφ : FKind.Formats .f32) (hacc : (0xFF800000#32 : BitVec 32) = FKind.maximumf.neutral .f32 hφ) :
    multiReduction (F := Ideal) (φ := .f32) .maximumf [0] ⟨1, ![n]⟩ (absf v) 0xFF800000#32 h hφ hacc
      = fun j => amax fun k => v (ix2 k (j 0)) := by
  funext j
  rw [Ideal.multiReduction_maximumf_single]
  unfold amax
  refine congrArg (fun g => Finset.fold max _ g Finset.univ) (funext fun k => ?_)
  show FloatOps.absf (F := Ideal) (φ := .f32) (v (h.lift j k)) = _
  refine congrArg (fun i => FloatOps.absf (F := Ideal) (φ := .f32) (v i)) (funext fun a => Fin.ext ?_)
  match a with
  | ⟨0, _⟩ => rfl
  | ⟨1, _⟩ => rfl

/-- The maximum over the columns of a matrix's absolute values is, at each row, the row's largest absolute value. -/
theorem rowmax {m n : Nat} (v : (⟨2, ![m, n]⟩ : Shape).Idx → EReal) (h : (⟨2, ![m, n]⟩ : Shape).Reduces [1] ⟨1, ![m]⟩)
    (hφ : FKind.Formats .f32) (hacc : (0xFF800000#32 : BitVec 32) = FKind.maximumf.neutral .f32 hφ) :
    multiReduction (F := Ideal) (φ := .f32) .maximumf [1] ⟨1, ![m]⟩ (absf v) 0xFF800000#32 h hφ hacc
      = fun j => amax fun k => v (ix2 (j 0) k) := by
  funext j
  rw [Ideal.multiReduction_maximumf_single]
  unfold amax
  refine congrArg (fun g => Finset.fold max _ g Finset.univ) (funext fun k => ?_)
  show FloatOps.absf (F := Ideal) (φ := .f32) (v (h.lift j k)) = _
  refine congrArg (fun i => FloatOps.absf (F := Ideal) (φ := .f32) (v i)) (funext fun a => Fin.ext ?_)
  match a with
  | ⟨0, _⟩ => rfl
  | ⟨1, _⟩ => rfl

/-- The printed lines that take the scale from the largest absolute value, read at an index. -/
theorem scale_apply {s : Shape} (top : BitVec 32) (a : FVec Ideal s .f32) (i : s.Idx) :
    select (cmpf .oeq a (broadcast s (Scalar.ofBits .f32 0x00000000#32))) (broadcast s (Scalar.ofBits .f32 0x3F800000#32))
        (divf a (broadcast s (Scalar.ofBits .f32 top))) i = scale top (a i) := by
  generalize ha : a i = x
  unfold scale
  simp only [pointwise, ha]

/-- The printed lines that clip the quotient of two vectors, read at an index. -/
theorem clip_apply {s : Shape} (lo hi : BitVec 32) (v b : FVec Ideal s .f32) (i : s.Idx) :
    minimumf (broadcast s (Scalar.ofBits .f32 hi)) (maximumf (broadcast s (Scalar.ofBits .f32 lo)) (divf v b)) i
      = code lo hi (v i) (b i) := rfl

/-- A row broadcast over `m` rows reads the row at the column. -/
theorem bcastRow {α : Type} {m n : Nat} (x : (⟨2, ![1, n]⟩ : Shape).Idx → α) (h : (⟨2, ![1, n]⟩ : Shape).Broadcasts ⟨2, ![m, n]⟩)
    (i : (⟨2, ![m, n]⟩ : Shape).Idx) : broadcastTo ⟨2, ![m, n]⟩ x h i = x (ix2 0 (i 1)) := by
  refine broadcastTo_apply x h i _ fun a => ?_
  match a with
  | ⟨0, _⟩ => rfl
  | ⟨1, _⟩ =>
    show (i 1).val = if n = 1 then 0 else (i 1).val
    have : (i 1).val < n := (i 1).isLt
    split <;> omega

/-- A column broadcast over `n` columns reads the column at the row. -/
theorem bcastCol {α : Type} {m n : Nat} (x : (⟨2, ![m, 1]⟩ : Shape).Idx → α) (h : (⟨2, ![m, 1]⟩ : Shape).Broadcasts ⟨2, ![m, n]⟩)
    (i : (⟨2, ![m, n]⟩ : Shape).Idx) : broadcastTo ⟨2, ![m, n]⟩ x h i = x (ix2 (i 0) 0) := by
  refine broadcastTo_apply x h i _ fun a => ?_
  match a with
  | ⟨0, _⟩ =>
    show (i 0).val = if m = 1 then 0 else (i 0).val
    have : (i 0).val < m := (i 0).isLt
    split <;> omega
  | ⟨1, _⟩ => rfl

/-- A vector viewed as one row. -/
theorem castRow {α : Type} {n : Nat} (x : (⟨1, ![n]⟩ : Shape).Idx → α) (h : (⟨1, ![n]⟩ : Shape).ShapeCasts ⟨2, ![1, n]⟩)
    (i : (⟨2, ![1, n]⟩ : Shape).Idx) : shapeCast ⟨2, ![1, n]⟩ x h i = x (ix1 (i 1)) := by
  refine shapeCast_apply x h i _ ?_
  have : (i 0).val < 1 := (i 0).isLt
  rw [Shape.rowMajor_val_one, Shape.rowMajor_val_two]
  show (i 1).val = (i 0).val * n + (i 1).val
  have : (i 0).val = 0 := by omega
  rw [this]; omega

/-- A vector viewed as one column. -/
theorem castCol {α : Type} {n : Nat} (x : (⟨1, ![n]⟩ : Shape).Idx → α) (h : (⟨1, ![n]⟩ : Shape).ShapeCasts ⟨2, ![n, 1]⟩)
    (i : (⟨2, ![n, 1]⟩ : Shape).Idx) : shapeCast ⟨2, ![n, 1]⟩ x h i = x (ix1 (i 0)) := by
  refine shapeCast_apply x h i _ ?_
  have : (i 1).val < 1 := (i 1).isLt
  rw [Shape.rowMajor_val_one, Shape.rowMajor_val_two]
  show (i 0).val = (i 0).val * 1 + (i 1).val
  omega

/-- A row turned into a vector by a diagonal mask and a sum over the columns. -/
theorem diagCol {n : Nat} (hn : n < 4294967296) (x : (⟨2, ![1, n]⟩ : Shape).Idx → EReal)
    (h0 : (⟨2, ![n, n]⟩ : Shape).Iotas .tc 32 [0]) (h1 : (⟨2, ![n, n]⟩ : Shape).Iotas .tc 32 [1])
    (hc : (⟨2, ![1, n]⟩ : Shape).ShapeCasts ⟨2, ![1, n]⟩) (hb : (⟨2, ![1, n]⟩ : Shape).Broadcasts ⟨2, ![n, n]⟩)
    (hr : (⟨2, ![n, n]⟩ : Shape).Reduces [1] ⟨1, ![n]⟩) (hφ : FKind.Formats .f32)
    (hacc : (0x00000000#32 : BitVec 32) = FKind.add.neutral .f32 hφ) (j : (⟨1, ![n]⟩ : Shape).Idx) :
    multiReduction (F := Ideal) (φ := .f32) .add [1] ⟨1, ![n]⟩
        (select (cmpi .eq (iota .tc ⟨2, ![n, n]⟩ 32 [0] h0) (iota .tc ⟨2, ![n, n]⟩ 32 [1] h1))
          (broadcastTo ⟨2, ![n, n]⟩ (shapeCast ⟨2, ![1, n]⟩ x hc) hb) (broadcast ⟨2, ![n, n]⟩ (Scalar.ofBits .f32 0x00000000#32)))
        0x00000000#32 hr hφ hacc j = x (ix2 0 (j 0)) := by
  rw [Ideal.multiReduction_add_single, shapeCast_self]
  refine Eq.trans (Finset.sum_congr rfl fun k _ => ?_) (sum_pick hn (j 0).val (j 0).isLt fun k => x (ix2 0 k))
  show Scalar.select (IntOp.cmpi .eq (iota .tc ⟨2, ![n, n]⟩ 32 [0] h0 (hr.lift j k)) (iota .tc ⟨2, ![n, n]⟩ 32 [1] h1 (hr.lift j k)))
      (broadcastTo ⟨2, ![n, n]⟩ x hb (hr.lift j k)) (Ideal.ofBits .f32 0x00000000#32) = _
  rw [iota_single_apply, iota_single_apply, bcastRow, Ideal.ofBits_zero_f32]
  rfl

/-- A column turned into a vector by a diagonal mask and a sum over the rows. -/
theorem diagRow {n : Nat} (hn : n < 4294967296) (x : (⟨2, ![n, 1]⟩ : Shape).Idx → EReal)
    (h0 : (⟨2, ![n, n]⟩ : Shape).Iotas .tc 32 [0]) (h1 : (⟨2, ![n, n]⟩ : Shape).Iotas .tc 32 [1])
    (hc : (⟨2, ![n, 1]⟩ : Shape).ShapeCasts ⟨2, ![n, 1]⟩) (hb : (⟨2, ![n, 1]⟩ : Shape).Broadcasts ⟨2, ![n, n]⟩)
    (hr : (⟨2, ![n, n]⟩ : Shape).Reduces [0] ⟨1, ![n]⟩) (hφ : FKind.Formats .f32)
    (hacc : (0x00000000#32 : BitVec 32) = FKind.add.neutral .f32 hφ) (j : (⟨1, ![n]⟩ : Shape).Idx) :
    multiReduction (F := Ideal) (φ := .f32) .add [0] ⟨1, ![n]⟩
        (select (cmpi .eq (iota .tc ⟨2, ![n, n]⟩ 32 [0] h0) (iota .tc ⟨2, ![n, n]⟩ 32 [1] h1))
          (broadcastTo ⟨2, ![n, n]⟩ (shapeCast ⟨2, ![n, 1]⟩ x hc) hb) (broadcast ⟨2, ![n, n]⟩ (Scalar.ofBits .f32 0x00000000#32)))
        0x00000000#32 hr hφ hacc j = x (ix2 (j 0) 0) := by
  rw [Ideal.multiReduction_add_single, shapeCast_self]
  refine Eq.trans (Finset.sum_congr rfl fun k _ => ?_) (sum_pick' hn (j 0).val (j 0).isLt fun k => x (ix2 k 0))
  show Scalar.select (IntOp.cmpi .eq (iota .tc ⟨2, ![n, n]⟩ 32 [0] h0 (hr.lift j k)) (iota .tc ⟨2, ![n, n]⟩ 32 [1] h1 (hr.lift j k)))
      (broadcastTo ⟨2, ![n, n]⟩ x hb (hr.lift j k)) (Ideal.ofBits .f32 0x00000000#32) = _
  rw [iota_single_apply, iota_single_apply, bcastCol, Ideal.ofBits_zero_f32]
  rfl

/-- The inner product of two finite families. -/
def dotE {n : Nat} (f g : Fin n → EReal) : EReal := ∑ k : Fin n, f k * g k

/-- The product of two extended reals. -/
def mulE (a b : EReal) : EReal := a * b

/-- The elementwise product of two vectors, read at an index. -/
theorem mulf_at {s : Shape} {φ : FTy} (a b : FVec Ideal s φ) (i : s.Idx) : mulf a b i = mulE (a i) (b i) := rfl

attribute [irreducible] amax scale code dotE mulE

end Cert.Quant

end
-- ==== Proof.Heads.lean ====
/- The columns of the gradient of the projected row: the kernel holds them head by head (query, key, value of head 0, then of
   head 1, …), the reference all query columns first, then all key columns, then all value columns. This module has the
   correspondence of the two orders and reads a clipped quotient of a column slice at an index. -/
module

public import proofs.«01_k».proof.Proof.Quant

@[expose] public section

set_option maxRecDepth 16384

noncomputable section

namespace Cert.Quant

open Idealize.ShloMosaic

/-- The head-by-head column that holds column `d` of the query, key, value order: six heads, 256 query, 256 key and 512 value
    columns each. -/
def srcN (d : Nat) : Nat :=
  if d < 1536 then d / 256 * 1024 + d % 256
  else if d < 3072 then (d - 1536) / 256 * 1024 + 256 + (d - 1536) % 256
  else (d - 3072) / 512 * 1024 + 512 + (d - 3072) % 512

theorem srcN_lt (d : Nat) (h : d < 6144) : srcN d < 6144 := by unfold srcN; split_ifs <;> omega

/-- The same on column indices. -/
def src (d : Fin 6144) : Fin 6144 := ⟨srcN d.val, srcN_lt d.val d.isLt⟩

theorem src_injective : Function.Injective src := by
  intro a b h
  have h := congrArg Fin.val h
  have ha := a.isLt
  have hb := b.isLt
  apply Fin.ext
  change srcN a.val = srcN b.val at h
  unfold srcN at h
  split_ifs at h <;> omega

/-- The largest absolute value of a row does not depend on the order of its columns. -/
theorem amax_src (f : Fin 6144 → EReal) : amax (fun k => f (src k)) = amax f := by
  unfold amax
  have e : Finset.univ.map (⟨src, src_injective⟩ : Fin 6144 ↪ Fin 6144) = Finset.univ :=
    Finset.map_univ_equiv (Equiv.ofBijective src (Finite.injective_iff_bijective.mp src_injective))
  conv_rhs => rw [← e]
  rw [Finset.fold_map]
  rfl

/-- The clipped quotient of a slice of columns by a column of scales, read at an index. -/
theorem tile {m n k : Nat} (lo hi : BitVec 32) (off : Nat) (v : (⟨2, ![m, k]⟩ : Shape).Idx → EReal) (s : (⟨2, ![m, 1]⟩ : Shape).Idx → EReal)
    (h : (⟨2, ![m, k]⟩ : Shape).Slices ![0, off] ⟨2, ![m, n]⟩) (hb : (⟨2, ![m, 1]⟩ : Shape).Broadcasts ⟨2, ![m, n]⟩)
    (i : (⟨2, ![m, n]⟩ : Shape).Idx) (j : Fin k) (hj : j.val = off + (i 1).val) :
    minimumf (F := Ideal) (φ := .f32) (broadcast ⟨2, ![m, n]⟩ (Scalar.ofBits .f32 hi)) (maximumf (broadcast ⟨2, ![m, n]⟩ (Scalar.ofBits .f32 lo))
      (divf (extractStridedSlice ⟨2, ![m, n]⟩ ![0, off] v h) (broadcastTo ⟨2, ![m, n]⟩ s hb))) i
      = code lo hi (v (ix2 (i 0) j)) (s (ix2 (i 0) 0)) := by
  refine (clip_apply lo hi _ _ i).trans (congrArg₂ (code lo hi) ?_ (bcastCol _ _ i))
  refine extractStridedSlice_apply _ _ _ _ (ix2 (i 0) j) fun a => ?_
  match a with
  | ⟨0, _⟩ => show (i 0).val = 0 + (i 0).val; omega
  | ⟨1, _⟩ => exact hj

end Cert.Quant

end
-- ==== Proof.DxPay.lean ====
module

public import proofs.«01_k».proof.Proof.Heads
public import proofs.«01_k».proof.Proof.Gen.DxIdeal.Skeleton
public import proofs.«01_k».proof.Proof.Gen.DxRefIdeal.Skeleton

@[expose] public section

set_option maxRecDepth 16384

noncomputable section

open Idealize.ShloMosaic Idealize.SL.Sem

namespace Cert.DxIdeal.Pay
open Cert.DxIdeal Cert.DxIdeal.Gen Cert.Quant

/-- The scales of a block of 256 rows, as a column. -/
theorem pay2 (v : Vec Ideal S256x6144 .f32) (i : S256x1.Idx) :
    k0_pay2 (F := Ideal) v i = scale 0x47600000#32 (amax fun k => v (ix2 (i 0) k)) := by
  unfold k0_pay2
  exact (scale_apply 0x47600000#32 _ i).trans (congrArg (scale _) ((castCol _ _ i).trans (congrFun (rowmax v _ _ _) _)))

/-- The column of scales written as a row. -/
theorem pay24 (s : Vec Ideal S256x1 .f32) (i : S1x1x256.Idx) : k0_pay24 (F := Ideal) s i = s (ix2 (i 2) 0) := by
  have h0 : (i 0).val < 1 := (i 0).isLt
  have h1 : (i 1).val < 1 := (i 1).isLt
  have h2 : (i 2).val < 256 := (i 2).isLt
  unfold k0_pay24
  refine (shapeCast_apply _ _ i (ix2 (n1 := 256) (0 : Fin 1) (i 2)) ?_).trans ?_
  · rw [Shape.rowMajor_val_two, Shape.rowMajor_val_three]
    show 0 * 256 + (i 2).val = ((i 0).val * 1 + (i 1).val) * 256 + (i 2).val
    omega
  by_cases h : (i 2).val < 128
  · refine (concatenate_pair_apply_left (t := S1x256) (s₁ := S1x128) (s₂ := S1x128) (1 : Fin 2) _ _ _ _ rfl (ix2 (n0 := 1) 0 (⟨(i 2).val, h⟩ : Fin 128)) fun a => ?_).trans ?_
    · match a with
      | ⟨0, _⟩ => rfl
      | ⟨1, _⟩ => rfl
    · refine (castRow _ _ _).trans ((diagRow (by decide) _ _ _ _ _ _ _ _ _).trans ?_)
      refine extractStridedSlice_apply _ _ _ _ (ix2 (i 2) 0) fun a => ?_
      match a with
      | ⟨0, _⟩ => show (i 2).val = 0 + (i 2).val; omega
      | ⟨1, _⟩ => rfl
  · refine (concatenate_pair_apply_right (t := S1x256) (s₁ := S1x128) (s₂ := S1x128) (1 : Fin 2) _ _ _ _ rfl rfl (ix2 (n0 := 1) 0 (⟨(i 2).val - 128, by omega⟩ : Fin 128)) (fun a ha => ?_) ?_).trans ?_
    · match a with
      | ⟨0, _⟩ => rfl
      | ⟨1, _⟩ => exact absurd rfl ha
    · show (i 2).val - 128 + 128 = (i 2).val; omega
    · refine (castRow _ _ _).trans ((diagRow (by decide) _ _ _ _ _ _ _ _ _).trans ?_)
      refine extractStridedSlice_apply _ _ _ _ (ix2 (i 2) 0) fun a => ?_
      match a with
      | ⟨0, _⟩ => show (i 2).val = 128 + ((i 2).val - 128); omega
      | ⟨1, _⟩ => rfl

/-- The product of a block of codes and the weights over the projected columns, at an index. -/
theorem dot (c : FVec Ideal S256x6144 .fp8e5m2) (w : Vec Ideal S2048x6144 .fp8e4m3) (i : S256x2048.Idx) :
    matmul (F := Ideal) (φ₁ := .fp8e5m2) (φ₂ := .fp8e4m3) dot_S256x6144_S2048x6144_S256x2048_1_1_0_0_n_n none c w (constant S256x2048 .f32 0x00000000#32) i
      = dotE (fun k : Fin 6144 => c (ix2 (i 0) k)) fun k => w (ix2 (i 1) k) := by
  unfold dotE
  simp only [pointwise]
  simp (decide := true)

/-- The product scaled by the row's scale and by the weights' scale. -/
theorem pay1 (s : FVec Ideal S256x1 .f32) (c : Vec Ideal S256x6144 .fp8e5m2) (w : Vec Ideal S2048x6144 .fp8e4m3) (z : Elt Ideal .f32) (i : S256x2048.Idx) :
    k0_pay1 (F := Ideal) s c w z i = mulE (mulE (dotE (fun k : Fin 6144 => c (ix2 (i 0) k)) fun k => w (ix2 (i 1) k)) (s (ix2 (i 0) 0))) z := by
  unfold k0_pay1
  refine (mulf_at _ _ i).trans (congrArg (mulE · z) ((mulf_at _ _ i).trans (congrArg₂ mulE ?_ (bcastCol _ _ i))))
  rw [shapeCast_self]
  exact dot c w i

end Cert.DxIdeal.Pay

namespace Cert.DxRefIdeal.Pay
open Cert.DxRefIdeal Cert.DxRefIdeal.Gen Cert.Quant

/-- The reference's scale of each row. -/
theorem pay2 (v : Vec Ideal S2048x6144 .f32) (i : S2048.Idx) :
    k0_pay2 (F := Ideal) v i = scale 0x47600000#32 (amax fun k => v (ix2 (i 0) k)) := by
  unfold k0_pay2 k0_pay1
  rw [shapeCast_self]
  exact (scale_apply 0x47600000#32 _ i).trans (congrArg (scale _) (congrFun (rowmax v _ _ _) _))

/-- The reference's codes. -/
theorem pay3 (v : Vec Ideal S2048x6144 .f32) (i : S2048x6144.Idx) :
    k0_pay3 (F := Ideal) v i = code 0xC7600000#32 0x47600000#32 (v i) (scale 0x47600000#32 (amax fun k => v (ix2 (i 0) k))) := by
  unfold k0_pay3 k0_pay1
  rw [shapeCast_self]
  exact (clip_apply 0xC7600000#32 0x47600000#32 v _ i).trans
    (congrArg (code _ _ _) ((bcastCol _ _ i).trans ((castCol _ _ _).trans (pay2 v _))))

/-- Row `i 2` of the block `i 0` of 256 rows. -/
def row (b : Fin 8) (r : Fin 256) : Fin 2048 := ⟨b.val * 256 + r.val, by omega⟩

/-- The reference's scales, in blocks of 256. -/
theorem pay4 (v : Vec Ideal S2048x6144 .f32) (i : S8x1x256.Idx) :
    k0_pay4 (F := Ideal) v i = scale 0x47600000#32 (amax fun k => v (ix2 (row (i 0) (i 2)) k)) := by
  have h1 : (i 1).val < 1 := (i 1).isLt
  unfold k0_pay4
  refine (shapeCast_apply _ _ i (ix1 (row (i 0) (i 2))) ?_).trans (pay2 v _)
  rw [Shape.rowMajor_val_one, Shape.rowMajor_val_three]
  show (i 0).val * 256 + (i 2).val = ((i 0).val * 1 + (i 1).val) * 256 + (i 2).val
  omega

/-- The reference's product, at an index. -/
theorem dot (c : FVec Ideal S2048x6144 .fp8e5m2) (w : Vec Ideal S2048x6144 .fp8e4m3) (i : S2048x2048.Idx) :
    matmul (F := Ideal) (φ₁ := .fp8e5m2) (φ₂ := .fp8e4m3) dot_S2048x6144_S2048x6144_S2048x2048_1_1_0_0_n_n none c w (constant S2048x2048 .f32 0x00000000#32) i
      = dotE (fun k : Fin 6144 => c (ix2 (i 0) k)) fun k => w (ix2 (i 1) k) := by
  unfold dotE
  simp only [pointwise]
  simp (decide := true)

/-- The reference's product scaled by the row's scale and by the weights' scale. -/
theorem pay5 (v : Vec Ideal S2048x6144 .f32) (w : Vec Ideal S2048x6144 .fp8e4m3) (z : Vec Ideal S1x1 .f32) (i : S2048x2048.Idx) :
    k0_pay5 (F := Ideal) v w z i = mulE (mulE (dotE (fun k : Fin 6144 => k0_pay3 (F := Ideal) v (ix2 (i 0) k)) fun k => w (ix2 (i 1) k))
      (scale 0x47600000#32 (amax fun k => v (ix2 (i 0) k)))) (z (ix2 0 0)) := by
  unfold k0_pay5
  refine (mulf_at _ _ i).trans (congrArg₂ mulE ((mulf_at _ _ i).trans (congrArg₂ mulE (dot (k0_pay3 (F := Ideal) v) w i) ?_)) ?_)
  · exact (bcastCol _ _ i).trans ((castCol _ _ _).trans (pay2 v _))
  · rw [shapeCast_self]
    refine broadcastTo_apply z _ i _ fun a => ?_
    match a with
    | ⟨0, _⟩ => rfl
    | ⟨1, _⟩ => rfl

end Cert.DxRefIdeal.Pay

end
-- ==== Proof.DxBlock.lean ====
module

public import proofs.«01_k».proof.Proof.DxPay
public import proofs.«01_k».proof.Proof.Gen.DxIdeal.Value
public import Idealize.ShloMosaic.Lib.Pipeline.ValueKit

@[expose] public section

set_option maxRecDepth 16384

noncomputable section

open Idealize.ShloMosaic Idealize.ShloMosaic.TcCoe Idealize.SL.Sem

namespace Cert.DxIdeal.Block
open Cert.DxIdeal Cert.DxIdeal.Gen Cert.Quant

theorem hz : (![0, 0] : Fin 2 → Nat) = fun _ => 0 := funext fun a => by fin_cases a <;> rfl

/-- The codes of a block of 256 rows in the query, key, value order of the columns. -/
def codes (v : Vec Ideal S256x6144 .f32) : Vec Ideal S256x6144 .fp8e5m2 :=
  fun y => code 0xC7600000#32 0x47600000#32 (v (ix2 (y 0) (src (y 1)))) (k0_pay2 (F := Ideal) v (ix2 (y 0) 0))

/-- A slice of the block's columns, as the body stores it, is the block's codes at its place. -/
theorem tileCodes {n : Nat} (off : Nat) (v : Vec Ideal S256x6144 .f32) (h : S256x6144.Slices ![0, off] ⟨2, ![256, n]⟩)
    (hb : S256x1.Broadcasts ⟨2, ![256, n]⟩) (x : (⟨2, ![256, n]⟩ : Shape).Idx) (y : S256x6144.Idx) (h0 : (y 0).val = (x 0).val)
    (hj : srcN (y 1).val = off + (x 1).val) :
    truncf (F := Ideal) .fp8e5m2 (minimumf (broadcast ⟨2, ![256, n]⟩ (Scalar.ofBits .f32 0x47600000#32)) (maximumf (broadcast ⟨2, ![256, n]⟩ (Scalar.ofBits .f32 0xC7600000#32))
      (divf (extractStridedSlice ⟨2, ![256, n]⟩ ![0, off] v h) (broadcastTo ⟨2, ![256, n]⟩ (k0_pay2 (F := Ideal) v) hb)))) bitsLt_fp8e5m2_f32 x = codes v y := by
  refine (tile 0xC7600000#32 0x47600000#32 off v (k0_pay2 (F := Ideal) v) h hb x (src (y 1)) hj).trans ?_
  have e : x 0 = y 0 := Fin.ext h0.symm
  unfold codes
  rw [e]

/-- The eighteen stores of the body into the codes' buffer, newest first, hold together the block's codes. -/
theorem canon_stores (x1 : Vec Ideal S256x6144 .f32) :
    View.canon (s := S256x6144) (e := .fp8e5m2) (Val := Elt Ideal)
      [⟨Rect.unit ![0, 5632] ![256, 512] inb_S256x6144_S256x512_0_5632, k0_pay23 x1 (k0_pay2 x1)⟩,
        ⟨Rect.unit ![0, 2816] ![256, 256] inb_S256x6144_S256x256_0_2816, k0_pay22 x1 (k0_pay2 x1)⟩,
        ⟨Rect.unit ![0, 1280] ![256, 256] inb_S256x6144_S256x256_0_1280, k0_pay21 x1 (k0_pay2 x1)⟩,
        ⟨Rect.unit ![0, 5120] ![256, 512] inb_S256x6144_S256x512_0_5120, k0_pay20 x1 (k0_pay2 x1)⟩,
        ⟨Rect.unit ![0, 2560] ![256, 256] inb_S256x6144_S256x256_0_2560, k0_pay19 x1 (k0_pay2 x1)⟩,
        ⟨Rect.unit ![0, 1024] ![256, 256] inb_S256x6144_S256x256_0_1024, k0_pay18 x1 (k0_pay2 x1)⟩,
        ⟨Rect.unit ![0, 4608] ![256, 512] inb_S256x6144_S256x512_0_4608, k0_pay17 (k0_pay16 x1 (k0_pay2 x1))⟩,
        ⟨Rect.unit ![0, 2304] ![256, 256] inb_S256x6144_S256x256_0_2304, k0_pay15 x1 (k0_pay2 x1)⟩,
        ⟨Rect.unit ![0, 768] ![256, 256] inb_S256x6144_S256x256_0_768, k0_pay14 x1 (k0_pay2 x1)⟩,
        ⟨Rect.unit ![0, 4096] ![256, 512] inb_S256x6144_S256x512_0_4096, k0_pay13 x1 (k0_pay2 x1)⟩,
        ⟨Rect.unit ![0, 2048] ![256, 256] inb_S256x6144_S256x256_0_2048,
          k0_pay12 (k0_pay11 x1 (k0_pay2 x1)) (FloatOps.ofBits FTy.f32 0xC7600000#32) (FloatOps.ofBits FTy.f32 0x47600000#32)⟩,
        ⟨Rect.unit ![0, 512] ![256, 256] inb_S256x6144_S256x256_0_512, k0_pay10 x1 (k0_pay2 x1)⟩,
        ⟨Rect.unit ![0, 3584] ![256, 512] inb_S256x6144_S256x512_0_3584, k0_pay9 x1 (k0_pay2 x1)⟩,
        ⟨Rect.unit ![0, 1792] ![256, 256] inb_S256x6144_S256x256_0_1792, k0_pay8 x1 (k0_pay2 x1)⟩,
        ⟨Rect.unit ![0, 256] ![256, 256] inb_S256x6144_S256x256_0_256, k0_pay7 (k0_pay2 x1) (k0_pay6 x1)⟩,
        ⟨Rect.unit ![0, 3072] ![256, 512] inb_S256x6144_S256x512_0_3072, k0_pay5 x1⟩,
        ⟨Rect.unit ![0, 1536] ![256, 256] inb_S256x6144_S256x256_0_1536, k0_pay4 x1⟩,
        ⟨Rect.unit ![0, 0] ![256, 256] inb_S256x6144_S256x256_0_0, k0_pay3 x1⟩] = codes x1 := by
  funext y
  canon_tiles x h using View.cover_of_tiledBy _ ![256, 256] (by sl_kernel_rfl) y
  case piece14 =>
    refine tileCodes 1024 x1 slices_S256x6144_o0_1024_S256x256 _ x y h0 ?_
    unfold srcN
    split_ifs <;> omega
  all_goals
    refine tileCodes _ x1 _ _ x y h0 ?_
    unfold srcN
    split_ifs <;> omega

variable (c : Dev nD) (i : grid0.Coords) (a1 : Memref sig .tc .smem S1 .f32) (h1 : a1.IsWhole) (a2 : Memref sig .tc .vmem S256x6144 .f32) (h2 : a2.IsWhole) (a3 : Memref sig .tc .vmem S2048x6144 .fp8e4m3) (h3 : a3.IsWhole) (a4 : Memref sig .tc .vmem S256x2048 .bf16) (h4 : a4.IsWhole) (a5 : Memref sig .tc .vmem S256x6144 .fp8e5m2) (h5 : a5.IsWhole) (a6 : Memref sig .tc .vmem S1x1x256 .f32) (h6 : a6.IsWhole)

/-- What the body leaves of the codes: the eighteen stores hold the block's codes, each head's columns at their places. -/
theorem out4 (x0 : Vec Ideal S1 .f32) (x1 : Vec Ideal S256x6144 .f32) (x2 : Vec Ideal S2048x6144 .fp8e4m3) :
    out0_A_4 (F := Ideal) c i a1 h1 a2 h2 a3 h3 a4 h4 a5 h5 a6 h6 x0 x1 x2 = codes x1 := by
  frame_out
  exact canon_stores x1

/-- What the body leaves of the scales. -/
theorem out5 (x0 : Vec Ideal S1 .f32) (x1 : Vec Ideal S256x6144 .f32) (x2 : Vec Ideal S2048x6144 .fp8e4m3) :
    out0_A_5 (F := Ideal) c i a1 h1 a2 h2 a3 h3 a4 h4 a5 h5 a6 h6 x0 x1 x2 = k0_pay24 (k0_pay2 x1) := by
  frame_out

/-- What the body leaves of the product: it reads back the codes it stored. -/
theorem out3 (x0 : Vec Ideal S1 .f32) (x1 : Vec Ideal S256x6144 .f32) (x2 : Vec Ideal S2048x6144 .fp8e4m3) :
    out0_A_3 (F := Ideal) c i a1 h1 a2 h2 a3 h3 a4 h4 a5 h5 a6 h6 x0 x1 x2 = k0_pay1 (k0_pay2 x1) (codes x1) x2 (x0 (ix1 0)) := by
  frame_out
  rw [View.readCov_eq_canon', canon_stores]
  have e : (fun j => codes x1 ((Rect.unit ![0, 0] ![256, 6144] inb_S256x6144_S256x6144_0_0).idx j)) = codes x1 :=
    View.ld_unit_zero (S := S256x6144) hz _ (codes x1)
  refine (congrArg (fun z => k0_pay1 (F := Ideal) (k0_pay2 x1) z x2 _) e).trans ?_
  refine congrArg (k0_pay1 (F := Ideal) (k0_pay2 x1) (codes x1) x2) (congrArg x0 (funext fun a => ?_))
  apply Fin.ext
  match a with
  | ⟨0, _⟩ => rfl

end Cert.DxIdeal.Block

end
-- ==== Proof.Order.lean ====
/- The reference brings the head-by-head columns into the query, key, value order by reshapes, slices and one concatenation.
   This module reads the outcome at an index. -/
module

public import proofs.«01_k».proof.Proof.Heads

@[expose] public section

noncomputable section

namespace Cert.Quant

open Idealize.ShloMosaic

variable {α : Type}

/-- One of the three parts: `n` columns of each of the six heads from column `off` of the head on, side by side. -/
theorem part {m n N off : Nat} (v : (⟨2, ![m, 6144]⟩ : Shape).Idx → α) (h1 : (⟨2, ![m, 6144]⟩ : Shape).ShapeCasts ⟨3, ![m, 6, 1024]⟩)
    (h2 : (⟨3, ![m, 6, 1024]⟩ : Shape).Slices ![0, 0, off] ⟨3, ![m, 6, n]⟩) (h3 : (⟨3, ![m, 6, n]⟩ : Shape).ShapeCasts ⟨2, ![m, N]⟩)
    (hn : 0 < n) (hN : N = 6 * n) (ho : off + n ≤ 1024) (i : (⟨2, ![m, N]⟩ : Shape).Idx) (j : Fin 6144)
    (hj : j.val = (i 1).val / n * 1024 + off + (i 1).val % n) :
    shapeCast ⟨2, ![m, N]⟩ (extractStridedSlice ⟨3, ![m, 6, n]⟩ ![0, 0, off] (shapeCast ⟨3, ![m, 6, 1024]⟩ v h1) h2) h3 i = v (ix2 (i 0) j) := by
  subst hN
  have hi : (i 1).val < 6 * n := (i 1).isLt
  have hq : (i 1).val / n < 6 := Nat.div_lt_of_lt_mul (hi.trans_eq (Nat.mul_comm 6 n))
  have hr : (i 1).val % n < n := Nat.mod_lt _ hn
  have hd := Nat.div_add_mod (i 1).val n
  refine (shapeCast_apply _ h3 i (ix3 (i 0) (⟨(i 1).val / n, hq⟩ : Fin 6) (⟨(i 1).val % n, hr⟩ : Fin n)) ?_).trans ?_
  · rw [Shape.rowMajor_val_two, Shape.rowMajor_val_three]
    show ((i 0).val * 6 + (i 1).val / n) * n + (i 1).val % n = (i 0).val * (6 * n) + (i 1).val
    have e : ∀ a b c : Nat, (a * 6 + b) * n + c = a * (6 * n) + (n * b + c) := fun a b c => by ring
    rw [e, hd]
  refine (extractStridedSlice_apply _ _ h2 _ (ix3 (i 0) (⟨(i 1).val / n, hq⟩ : Fin 6) (⟨off + (i 1).val % n, by omega⟩ : Fin 1024)) fun a => ?_).trans ?_
  · match a with
    | ⟨0, _⟩ => show (i 0).val = 0 + (i 0).val; omega
    | ⟨1, _⟩ => show (i 1).val / n = 0 + (i 1).val / n; omega
    | ⟨2, _⟩ => rfl
  refine shapeCast_apply v h1 _ (ix2 (i 0) j) ?_
  rw [Shape.rowMajor_val_two, Shape.rowMajor_val_three]
  show (i 0).val * 6144 + j.val = ((i 0).val * 6 + (i 1).val / n) * 1024 + (off + (i 1).val % n)
  omega

/-- The three parts side by side are the array with its columns in the query, key, value order. -/
theorem parts {m : Nat} (v : (⟨2, ![m, 6144]⟩ : Shape).Idx → α) (p q : (⟨2, ![m, 1536]⟩ : Shape).Idx → α) (r : (⟨2, ![m, 3072]⟩ : Shape).Idx → α)
    (hp : ∀ i j, j.val = (i 1).val / 256 * 1024 + 0 + (i 1).val % 256 → p i = v (ix2 (i 0) j))
    (hq : ∀ i j, j.val = (i 1).val / 256 * 1024 + 256 + (i 1).val % 256 → q i = v (ix2 (i 0) j))
    (hr : ∀ i j, j.val = (i 1).val / 512 * 1024 + 512 + (i 1).val % 512 → r i = v (ix2 (i 0) j))
    (h : Shape.Concatenates ([⟨⟨2, ![m, 1536]⟩, p⟩, ⟨⟨2, ![m, 1536]⟩, q⟩, ⟨⟨2, ![m, 3072]⟩, r⟩].map (·.1 : ((s : Shape) × (s.Idx → α)) → Shape)) ⟨2, ![m, 6144]⟩ 1)
    (y : (⟨2, ![m, 6144]⟩ : Shape).Idx) :
    concatenate ⟨2, ![m, 6144]⟩ 1 [⟨⟨2, ![m, 1536]⟩, p⟩, ⟨⟨2, ![m, 1536]⟩, q⟩, ⟨⟨2, ![m, 3072]⟩, r⟩] h y = v (ix2 (y 0) (src (y 1))) := by
  have hy : (y 1).val < 6144 := (y 1).isLt
  have hs : (src (y 1)).val = srcN (y 1).val := rfl
  unfold srcN at hs
  by_cases c1 : (y 1).val < 1536
  · rw [if_pos c1] at hs
    refine (concatenate_apply_piece _ _ h y 0 (by simp) ⟨2, ![m, 1536]⟩ p rfl rfl 0 rfl (ix2 (y 0) (⟨(y 1).val, c1⟩ : Fin 1536)) (fun b hb => ?_) ?_).trans
      (hp _ (src (y 1)) (by rw [hs]; rfl))
    · match b with
      | ⟨0, _⟩ => rfl
      | ⟨1, _⟩ => exact absurd rfl hb
    · show 0 + (y 1).val = (y 1).val; omega
  · by_cases c2 : (y 1).val < 3072
    · rw [if_neg c1, if_pos c2] at hs
      refine (concatenate_apply_piece _ _ h y 1 (by simp) ⟨2, ![m, 1536]⟩ q rfl rfl 1536 rfl (ix2 (y 0) (⟨(y 1).val - 1536, by omega⟩ : Fin 1536)) (fun b hb => ?_) ?_).trans
        (hq _ (src (y 1)) (by rw [hs]; rfl))
      · match b with
        | ⟨0, _⟩ => rfl
        | ⟨1, _⟩ => exact absurd rfl hb
      · show 1536 + ((y 1).val - 1536) = (y 1).val; omega
    · rw [if_neg c1, if_neg c2] at hs
      refine (concatenate_apply_piece _ _ h y 2 (by simp) ⟨2, ![m, 3072]⟩ r rfl rfl 3072 rfl (ix2 (y 0) (⟨(y 1).val - 3072, by omega⟩ : Fin 3072)) (fun b hb => ?_) ?_).trans
        (hr _ (src (y 1)) (by rw [hs]; rfl))
      · match b with
        | ⟨0, _⟩ => rfl
        | ⟨1, _⟩ => exact absurd rfl hb
      · show 3072 + ((y 1).val - 3072) = (y 1).val; omega

end Cert.Quant

end
-- ==== Proof.DxRefValue.lean ====
module

public import proofs.«01_k».proof.Proof.Order
public import proofs.«01_k».proof.Proof.DxPay
public import proofs.«01_k».proof.Proof.Gen.DxRefIdeal.Value
public import Idealize.ShloMosaic.Lib.Pipeline.ValueKit

@[expose] public section

set_option maxRecDepth 16384

noncomputable section

open Idealize.ShloMosaic Idealize.ShloMosaic.TcCoe Idealize.SL.Sem
open Cert.Quant

namespace Cert.DxRefIdeal.Arrays
open Cert.DxRefIdeal Cert.DxRefIdeal.Gen Cert.DxRefIdeal.Value

variable (m : (ℓ : Loc nD τ sig) → Buf (Elt Ideal) ℓ)

/-- The gradient with its columns in the query, key, value order. -/
def perm (v : Vec Ideal S2048x6144 .f32) : Vec Ideal S2048x6144 .f32 := fun y => v (ix2 (y 0) (src (y 1)))

/-- The scale of the weights as a one by one array. -/
def one (z : Vec Ideal S_ .f32) : Vec Ideal S1x1 .f32 := shapeCast S1x1 z shapeCasts_S_S1x1

/-- What the reference's host lines leave of the gradient. -/
theorem entry7 (c : Dev nD) : V m c main_v7 = perm (m ((c : Thread nD τ).loc main_arg0)) := by
  show StableHlo.after hostOps0 (fun b => m (c, b)) (Proc.devRef .tc main_v7) = _
  unfold hostOps0
  simp only [StableHlo.after_cons, StableHlo.after_nil]
  rw [StableHlo.reshape_result_ne (h := by decide), StableHlo.nary_result]
  funext y
  refine parts (m ((c : Thread nD τ).loc main_arg0)) _ _ _ (fun i j h => ?_) (fun i j h => ?_) (fun i j h => ?_) _ y
  · refine Eq.trans (congrFun ?_ i) (part (m ((c : Thread nD τ).loc main_arg0)) shapeCasts_S2048x6144_S2048x6x1024
      slices_S2048x6x1024_S2048x6x256_0_0_0 shapeCasts_S2048x6x256_S2048x1536 (by decide) rfl (by decide) i j h)
    after_results_steps
    rfl
  · refine Eq.trans (congrFun ?_ i) (part (m ((c : Thread nD τ).loc main_arg0)) shapeCasts_S2048x6144_S2048x6x1024
      slices_S2048x6x1024_S2048x6x256_0_0_256 shapeCasts_S2048x6x256_S2048x1536 (by decide) rfl (by decide) i j h)
    after_results_steps
    rfl
  · refine Eq.trans (congrFun ?_ i) (part (m ((c : Thread nD τ).loc main_arg0)) shapeCasts_S2048x6144_S2048x6x1024
      slices_S2048x6x1024_S2048x6x512_0_0_512 shapeCasts_S2048x6x512_S2048x3072 (by decide) rfl (by decide) i j h)
    after_results_steps
    rfl

theorem entry8 (c : Dev nD) : V m c main_v8 = one (m ((c : Thread nD τ).loc main_arg2)) := by
  entry_read
  rfl

theorem hz : (![0, 0] : Fin 2 → Nat) = fun _ => 0 := funext fun a => by fin_cases a <;> rfl
theorem hz3 : (![0, 0, 0] : Fin 3 → Nat) = fun _ => 0 := funext fun a => by fin_cases a <;> rfl

/-- The one point reads and writes whole arrays. -/
theorem idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0 :=
  (by decide +kernel : ∀ t : Fin grid0.N, _)

theorem emb0 (t : Fin cfg0.N) (j : S1x1.Idx) : ((cfg0.win 0).blk t).view.emb j = j := by
  obtain ⟨a0, a1, -⟩ := idx t
  funext a; apply Fin.ext
  match a with
  | ⟨0, _⟩ => show win0_0.index t (0 : Fin 2) * 1 + 1 * (j 0).val = (j 0).val; omega
  | ⟨1, _⟩ => show win0_0.index t (1 : Fin 2) * 1 + 1 * (j 1).val = (j 1).val; omega

theorem emb1 (t : Fin cfg0.N) (j : S2048x6144.Idx) : ((cfg0.win 1).blk t).view.emb j = j := by
  obtain ⟨-, -, a0, a1, -⟩ := idx t
  funext a; apply Fin.ext
  match a with
  | ⟨0, _⟩ => show win0_1.index t (0 : Fin 2) * 2048 + 1 * (j 0).val = (j 0).val; omega
  | ⟨1, _⟩ => show win0_1.index t (1 : Fin 2) * 6144 + 1 * (j 1).val = (j 1).val; omega

theorem emb2 (t : Fin cfg0.N) (j : S2048x6144.Idx) : ((cfg0.win 2).blk t).view.emb j = j := by
  obtain ⟨-, -, -, -, a0, a1, -⟩ := idx t
  funext a; apply Fin.ext
  match a with
  | ⟨0, _⟩ => show win0_2.index t (0 : Fin 2) * 2048 + 1 * (j 0).val = (j 0).val; omega
  | ⟨1, _⟩ => show win0_2.index t (1 : Fin 2) * 6144 + 1 * (j 1).val = (j 1).val; omega

theorem emb3 (t : Fin cfg0.N) (j : S2048x2048.Idx) : ((cfg0.win 3).blk t).view.emb j = j := by
  obtain ⟨-, -, -, -, -, -, a0, a1, -⟩ := idx t
  funext a; apply Fin.ext
  match a with
  | ⟨0, _⟩ => show win0_3.index t (0 : Fin 2) * 2048 + 1 * (j 0).val = (j 0).val; omega
  | ⟨1, _⟩ => show win0_3.index t (1 : Fin 2) * 2048 + 1 * (j 1).val = (j 1).val; omega

theorem emb4 (t : Fin cfg0.N) (j : S2048x6144.Idx) : ((cfg0.win 4).blk t).view.emb j = j := by
  obtain ⟨-, -, -, -, -, -, -, -, a0, a1, -⟩ := idx t
  funext a; apply Fin.ext
  match a with
  | ⟨0, _⟩ => show win0_4.index t (0 : Fin 2) * 2048 + 1 * (j 0).val = (j 0).val; omega
  | ⟨1, _⟩ => show win0_4.index t (1 : Fin 2) * 6144 + 1 * (j 1).val = (j 1).val; omega

theorem emb5 (t : Fin cfg0.N) (j : S8x1x256.Idx) : ((cfg0.win 5).blk t).view.emb j = j := by
  obtain ⟨-, -, -, -, -, -, -, -, -, -, a0, a1, a2⟩ := idx t
  funext a; apply Fin.ext
  match a with
  | ⟨0, _⟩ => show win0_5.index t (0 : Fin 3) * 8 + 1 * (j 0).val = (j 0).val; omega
  | ⟨1, _⟩ => show win0_5.index t (1 : Fin 3) * 1 + 1 * (j 1).val = (j 1).val; omega
  | ⟨2, _⟩ => show win0_5.index t (2 : Fin 3) * 256 + 1 * (j 2).val = (j 2).val; omega

theorem iblk0 (c : Dev nD) (t : Fin cfg0.N) : iblk m c 0 t = V m c main_v8 := by
  funext j
  show V m c main_v8 (((cfg0.win 0).blk t).view.emb j) = _
  rw [emb0]

theorem iblk1 (c : Dev nD) (t : Fin cfg0.N) : iblk m c 1 t = V m c main_v7 := by
  funext j
  show V m c main_v7 (((cfg0.win 1).blk t).view.emb j) = _
  rw [emb1]

theorem iblk2 (c : Dev nD) (t : Fin cfg0.N) : iblk m c 2 t = V m c main_arg1 := by
  funext j
  show V m c main_arg1 (((cfg0.win 2).blk t).view.emb j) = _
  rw [emb2]

theorem out3 (x0 : Vec Ideal S1x1 .f32) (x1 : Vec Ideal S2048x6144 .f32) (x2 : Vec Ideal S2048x6144 .fp8e4m3) :
    out0_3 (F := Ideal) x0 x1 x2 = k0_pay5 x1 x2 x0 := by
  unfold out0_3
  rw [View.canon_unit_zero hz, View.ld_unit_zero (S := S1x1) hz _ x0, View.ld_unit_zero (S := S2048x6144) hz _ x1, View.ld_unit_zero (S := S2048x6144) hz _ x2]

theorem out4 (x0 : Vec Ideal S1x1 .f32) (x1 : Vec Ideal S2048x6144 .f32) (x2 : Vec Ideal S2048x6144 .fp8e4m3) :
    out0_4 (F := Ideal) x0 x1 x2 = k0_pay3 x1 := by
  unfold out0_4
  rw [View.canon_unit_zero hz, View.ld_unit_zero (S := S2048x6144) hz _ x1]

theorem out5 (x0 : Vec Ideal S1x1 .f32) (x1 : Vec Ideal S2048x6144 .f32) (x2 : Vec Ideal S2048x6144 .fp8e4m3) :
    out0_5 (F := Ideal) x0 x1 x2 = k0_pay4 x1 := by
  unfold out0_5
  rw [View.canon_unit_zero hz3, View.ld_unit_zero (S := S2048x6144) hz _ x1]

/-- A block that is the whole array. -/
theorem cut3 (t : Fin cfg0.N) (G : Vec Ideal S2048x2048 .bf16) :
    (cfg0.win 3).cut (grid0.coords t) G = ((cfg0.win 3).blk t).view.read (Elt Ideal) G := by
  funext j
  show G j = G (((cfg0.win 3).blk t).view.emb j)
  exact congrArg G (emb3 t j).symm

theorem cut4 (t : Fin cfg0.N) (G : Vec Ideal S2048x6144 .fp8e5m2) :
    (cfg0.win 4).cut (grid0.coords t) G = ((cfg0.win 4).blk t).view.read (Elt Ideal) G := by
  funext j
  show G j = G (((cfg0.win 4).blk t).view.emb j)
  exact congrArg G (emb4 t j).symm

theorem cut5 (t : Fin cfg0.N) (G : Vec Ideal S8x1x256 .f32) :
    (cfg0.win 5).cut (grid0.coords t) G = ((cfg0.win 5).blk t).view.read (Elt Ideal) G := by
  funext j
  show G j = G (((cfg0.win 5).blk t).view.emb j)
  exact congrArg G (emb5 t j).symm

theorem covered3 (i : S2048x2048.Idx) : ∃ t : Fin cfg0.N, (cfg0.win 3).flush t = true ∧ i ∈ ((cfg0.win 3).blk t).view.set := by
  refine ⟨t0_0, flush0_3 _, ?_⟩
  have h := ((cfg0.win 3).blk t0_0).view.emb_mem_set i
  rw [emb3] at h
  exact h

theorem covered4 (i : S2048x6144.Idx) : ∃ t : Fin cfg0.N, (cfg0.win 4).flush t = true ∧ i ∈ ((cfg0.win 4).blk t).view.set := by
  refine ⟨t0_0, flush0_4 _, ?_⟩
  have h := ((cfg0.win 4).blk t0_0).view.emb_mem_set i
  rw [emb4] at h
  exact h

theorem covered5 (i : S8x1x256.Idx) : ∃ t : Fin cfg0.N, (cfg0.win 5).flush t = true ∧ i ∈ ((cfg0.win 5).blk t).view.set := by
  refine ⟨t0_0, flush0_5 _, ?_⟩
  have h := ((cfg0.win 5).blk t0_0).view.emb_mem_set i
  rw [emb5] at h
  exact h

/-- The reference's product over the arrays of its arguments. -/
def dx (v : Vec Ideal S2048x6144 .f32) (w : Vec Ideal S2048x6144 .fp8e4m3) (z : Vec Ideal S_ .f32) : Vec Ideal S2048x2048 .bf16 :=
  k0_pay5 (F := Ideal) (perm v) w (one z)

theorem flushed3_eq (c : Dev nD) (t : Fin cfg0.N) : (dats m 0 c).flushed 3 t = ((cfg0.win 3).blk t).view.read (Elt Ideal)
    (dx (m ((c : Thread nD τ).loc main_arg0)) (m ((c : Thread nD τ).loc main_arg1)) (m ((c : Thread nD τ).loc main_arg2))) := by
  rw [flushed3, out3, iblk0, iblk1, iblk2, entry7, entry8, V_main_arg1]
  exact cut3 t _

theorem flushed4_eq (c : Dev nD) (t : Fin cfg0.N) : (dats m 0 c).flushed 4 t = ((cfg0.win 4).blk t).view.read (Elt Ideal)
    (k0_pay3 (F := Ideal) (perm (m ((c : Thread nD τ).loc main_arg0)))) := by
  rw [flushed4, out4, iblk1, entry7]
  exact cut4 t _

theorem flushed5_eq (c : Dev nD) (t : Fin cfg0.N) : (dats m 0 c).flushed 5 t = ((cfg0.win 5).blk t).view.read (Elt Ideal)
    (k0_pay4 (F := Ideal) (perm (m ((c : Thread nD τ).loc main_arg0)))) := by
  rw [flushed5, out5, iblk1, entry7]
  exact cut5 t _

/-- The reference's run: its three results as functions of its arguments, and these unchanged. -/
theorem run (ρ : Dev nD → PrngReg) : θ_run defs (onTc (τ := τ) (main (F := Ideal))) ⟨m, fun _ => 0, ρ⟩ fun r => ∀ c : Dev nD,
      r.2.mem ((c : Thread nD τ).loc main_v9_0)
          = dx (m ((c : Thread nD τ).loc main_arg0)) (m ((c : Thread nD τ).loc main_arg1)) (m ((c : Thread nD τ).loc main_arg2))
      ∧ r.2.mem ((c : Thread nD τ).loc main_v9_1) = k0_pay3 (F := Ideal) (perm (m ((c : Thread nD τ).loc main_arg0)))
      ∧ r.2.mem ((c : Thread nD τ).loc main_v9_2) = k0_pay4 (F := Ideal) (perm (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans ((dats m 0 c).arrAt_eq_of_cover 3 _ (fun t _ => flushed3_eq m c t) covered3),
        (h c).2.1.trans ((dats m 0 c).arrAt_eq_of_cover 4 _ (fun t _ => flushed4_eq m c t) covered4),
        (h c).2.2.1.trans ((dats m 0 c).arrAt_eq_of_cover 5 _ (fun t _ => flushed5_eq m c t) covered5), (h c).2.2.2⟩)
    (run_blocks m ρ)

end Cert.DxRefIdeal.Arrays

end
-- ==== Proof.DxValue.lean ====
module

public import proofs.«01_k».proof.Defs
public import proofs.«01_k».proof.Proof.DxBlock
public import proofs.«01_k».proof.Proof.DxRefValue

@[expose] public section

set_option maxRecDepth 16384

noncomputable section

open Idealize.ShloMosaic Idealize.ShloMosaic.TcCoe Idealize.SL.Sem
open Cert.Quant

namespace Cert.DxIdeal.Arrays
open Cert.DxIdeal Cert.DxIdeal.Gen Cert.DxIdeal.Value
open Cert.DxRefIdeal.Arrays (perm one dx)

variable (m : (ℓ : Loc nD τ sig) → Buf (Elt Ideal) ℓ)

/-- Point `t` reads and writes the rows of block `t`; the weights and their scale it reads whole. -/
theorem idx : ∀ t : Fin cfg0.N, win0_0.index t (0 : Fin 1) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Row `j` of block `t`. -/
def row (t : Fin cfg0.N) (j : Fin 256) : Fin 2048 := ⟨t.val * 256 + j.val, by have : t.val < 8 := t.isLt; omega⟩

/-- The place of block `t` in the scales' array of eight rows. -/
def blk (t : Fin cfg0.N) : Fin 8 := ⟨t.val, t.isLt⟩

theorem emb0 (t : Fin cfg0.N) (j : S1.Idx) : ((cfg0.win 0).blk t).view.emb j = j := by
  obtain ⟨a0, -⟩ := idx t
  funext a; apply Fin.ext
  match a with
  | ⟨0, _⟩ => show win0_0.index t (0 : Fin 1) * 1 + 1 * (j 0).val = (j 0).val; omega

theorem emb1 (t : Fin cfg0.N) (j : S256x6144.Idx) : ((cfg0.win 1).blk t).view.emb j = ix2 (row t (j 0)) (j 1) := by
  obtain ⟨-, a0, a1, -⟩ := idx t
  funext a; apply Fin.ext
  match a with
  | ⟨0, _⟩ => show win0_1.index t (0 : Fin 2) * 256 + 1 * (j 0).val = t.val * 256 + (j 0).val; omega
  | ⟨1, _⟩ => show win0_1.index t (1 : Fin 2) * 6144 + 1 * (j 1).val = (j 1).val; omega

theorem emb2 (t : Fin cfg0.N) (j : S2048x6144.Idx) : ((cfg0.win 2).blk t).view.emb j = j := by
  obtain ⟨-, -, -, a0, a1, -⟩ := idx t
  funext a; apply Fin.ext
  match a with
  | ⟨0, _⟩ => show win0_2.index t (0 : Fin 2) * 2048 + 1 * (j 0).val = (j 0).val; omega
  | ⟨1, _⟩ => show win0_2.index t (1 : Fin 2) * 6144 + 1 * (j 1).val = (j 1).val; omega

theorem emb3 (t : Fin cfg0.N) (j : S256x2048.Idx) : ((cfg0.win 3).blk t).view.emb j = ix2 (row t (j 0)) (j 1) := by
  obtain ⟨-, -, -, -, -, a0, a1, -⟩ := idx t
  funext a; apply Fin.ext
  match a with
  | ⟨0, _⟩ => show win0_3.index t (0 : Fin 2) * 256 + 1 * (j 0).val = t.val * 256 + (j 0).val; omega
  | ⟨1, _⟩ => show win0_3.index t (1 : Fin 2) * 2048 + 1 * (j 1).val = (j 1).val; omega

theorem emb4 (t : Fin cfg0.N) (j : S256x6144.Idx) : ((cfg0.win 4).blk t).view.emb j = ix2 (row t (j 0)) (j 1) := by
  obtain ⟨-, -, -, -, -, -, -, a0, a1, -⟩ := idx t
  funext a; apply Fin.ext
  match a with
  | ⟨0, _⟩ => show win0_4.index t (0 : Fin 2) * 256 + 1 * (j 0).val = t.val * 256 + (j 0).val; omega
  | ⟨1, _⟩ => show win0_4.index t (1 : Fin 2) * 6144 + 1 * (j 1).val = (j 1).val; omega

theorem emb5 (t : Fin cfg0.N) (j : S1x1x256.Idx) : ((cfg0.win 5).blk t).view.emb j = ix3 (blk t) (j 1) (j 2) := by
  obtain ⟨-, -, -, -, -, -, -, -, -, a0, a1, a2⟩ := idx t
  have h0 : (j 0).val < 1 := (j 0).isLt
  funext a; apply Fin.ext
  match a with
  | ⟨0, _⟩ => show win0_5.index t (0 : Fin 3) * 1 + 1 * (j 0).val = t.val; omega
  | ⟨1, _⟩ => show win0_5.index t (1 : Fin 3) * 1 + 1 * (j 1).val = (j 1).val; omega
  | ⟨2, _⟩ => show win0_5.index t (2 : Fin 3) * 256 + 1 * (j 2).val = (j 2).val; omega

/-- The weights' scale, handed over as a vector of one element. -/
theorem entry0 (c : Dev nD) : V m c main_v0 = shapeCast S1 (m ((c : Thread nD τ).loc main_arg2) : Vec Ideal S_ .f32) shapeCasts_S_S1 := by
  entry_read
  rfl

theorem iblk0 (c : Dev nD) (t : Fin cfg0.N) : iblk m c 0 t = V m c main_v0 := by
  funext j
  show V m c main_v0 (((cfg0.win 0).blk t).view.emb j) = _
  rw [emb0]

/-- The block of the gradient at point `t`. -/
theorem iblk1 (c : Dev nD) (t : Fin cfg0.N) (j : S256x6144.Idx) : iblk m c 1 t j = V m c main_arg0 (ix2 (row t (j 0)) (j 1)) := by
  show V m c main_arg0 (((cfg0.win 1).blk t).view.emb j) = _
  exact congrArg (V m c main_arg0) (emb1 t j)

theorem iblk2 (c : Dev nD) (t : Fin cfg0.N) : iblk m c 2 t = V m c main_arg1 := by
  funext j
  show V m c main_arg1 (((cfg0.win 2).blk t).view.emb j) = _
  rw [emb2]

/-- The weights' scale as the kernel and as the reference read it. -/
theorem oneOf (z : Vec Ideal S_ .f32) : shapeCast S1 z shapeCasts_S_S1 (ix1 0) = one z (ix2 0 0) := by
  unfold one
  refine (shapeCast_apply z shapeCasts_S_S1 (ix1 0) (fun a => a.elim0) ?_).trans (shapeCast_apply z _ (ix2 0 0) (fun a => a.elim0) ?_).symm
  · have h : (S_.rowMajor (fun a => a.elim0)).val < 1 := (S_.rowMajor (fun a => a.elim0)).isLt
    rw [Shape.rowMajor_val_one]
    show _ = 0
    omega
  · have h : (S_.rowMajor (fun a => a.elim0)).val < 1 := (S_.rowMajor (fun a => a.elim0)).isLt
    rw [Shape.rowMajor_val_two]
    show _ = 0 * 1 + 0
    omega

/-- A row's largest absolute value, in the block and in the array with its columns in the other order. -/
theorem rowOf (v : Vec Ideal S2048x6144 .f32) (X : Vec Ideal S256x6144 .f32) (t : Fin cfg0.N)
    (h : ∀ j : S256x6144.Idx, X j = v (ix2 (row t (j 0)) (j 1))) (r : Fin 256) :
    amax (fun k : Fin 6144 => X (ix2 r k)) = amax fun k : Fin 6144 => perm v (ix2 (row t r) k) :=
  (congrArg (amax (n := 6144)) (funext fun k => h (ix2 r k))).trans (amax_src fun k => v (ix2 (row t r) k)).symm

/-- The scales of block `t` are the reference's scales there. -/
theorem scaleOf (v : Vec Ideal S2048x6144 .f32) (X : Vec Ideal S256x6144 .f32) (t : Fin cfg0.N)
    (h : ∀ j : S256x6144.Idx, X j = v (ix2 (row t (j 0)) (j 1))) (r : Fin 256) :
    k0_pay2 (F := Ideal) X (ix2 r 0) = scale 0x47600000#32 (amax fun k : Fin 6144 => perm v (ix2 (row t r) k)) :=
  (Pay.pay2 X (ix2 r 0)).trans (congrArg (scale 0x47600000#32) (rowOf v X t h r))

/-- The codes of block `t` are the reference's codes there. -/
theorem at4 (v : Vec Ideal S2048x6144 .f32) (X : Vec Ideal S256x6144 .f32) (t : Fin cfg0.N)
    (h : ∀ j : S256x6144.Idx, X j = v (ix2 (row t (j 0)) (j 1))) (j : S256x6144.Idx) :
    Block.codes X j = Cert.DxRefIdeal.Gen.k0_pay3 (F := Ideal) (perm v) (ix2 (row t (j 0)) (j 1)) :=
  Eq.trans (congrArg₂ (code 0xC7600000#32 0x47600000#32) (h (ix2 (j 0) (src (j 1)))) (scaleOf v X t h (j 0)))
    (Cert.DxRefIdeal.Pay.pay3 (perm v) (ix2 (row t (j 0)) (j 1))).symm

/-- The scales' row of block `t` is the reference's. -/
theorem at5 (v : Vec Ideal S2048x6144 .f32) (X : Vec Ideal S256x6144 .f32) (t : Fin cfg0.N)
    (h : ∀ j : S256x6144.Idx, X j = v (ix2 (row t (j 0)) (j 1))) (j : S1x1x256.Idx) :
    k0_pay24 (F := Ideal) (k0_pay2 X) j = Cert.DxRefIdeal.Gen.k0_pay4 (F := Ideal) (perm v) (ix3 (blk t) (j 1) (j 2)) := by
  refine (Pay.pay24 (k0_pay2 X) j).trans ((scaleOf v X t h (j 2)).trans (Eq.trans ?_ (Cert.DxRefIdeal.Pay.pay4 (perm v) (ix3 (blk t) (j 1) (j 2))).symm))
  have e : row t (j 2) = Cert.DxRefIdeal.Pay.row (blk t) (j 2) := Fin.ext rfl
  exact congrArg (fun r => scale 0x47600000#32 (amax fun k : Fin 6144 => perm v (ix2 r k))) e

/-- The product's rows of block `t` are the reference's. -/
theorem at3 (v : Vec Ideal S2048x6144 .f32) (w : Vec Ideal S2048x6144 .fp8e4m3) (z : Vec Ideal S_ .f32) (X : Vec Ideal S256x6144 .f32) (t : Fin cfg0.N)
    (h : ∀ j : S256x6144.Idx, X j = v (ix2 (row t (j 0)) (j 1))) (j : S256x2048.Idx) :
    k0_pay1 (F := Ideal) (k0_pay2 X) (Block.codes X) w (shapeCast S1 z shapeCasts_S_S1 (ix1 0)) j = dx v w z (ix2 (row t (j 0)) (j 1)) := by
  unfold dx
  refine (Pay.pay1 (k0_pay2 X) (Block.codes X) w _ j).trans (Eq.trans ?_ (Cert.DxRefIdeal.Pay.pay5 (perm v) w (one z) (ix2 (row t (j 0)) (j 1))).symm)
  exact congrArg₂ mulE (congrArg₂ mulE (congrArg₂ dotE (funext fun k => at4 v X t h (ix2 (j 0) k)) rfl) (scaleOf v X t h (j 0))) (oneOf z)

/-- A block that reads `G` at its place is what the window's view reads of `G`. -/
theorem cut3 (t : Fin cfg0.N) (X : Vec Ideal S256x2048 .bf16) (G : Vec Ideal S2048x2048 .bf16)
    (h : ∀ j : S256x2048.Idx, X j = G (ix2 (row t (j 0)) (j 1))) :
    (cfg0.win 3).cut (grid0.coords t) X = ((cfg0.win 3).blk t).view.read (Elt Ideal) G := by
  funext j
  show X j = G (((cfg0.win 3).blk t).view.emb j)
  exact (h j).trans (congrArg G (emb3 t j).symm)

theorem cut4 (t : Fin cfg0.N) (X : Vec Ideal S256x6144 .fp8e5m2) (G : Vec Ideal S2048x6144 .fp8e5m2)
    (h : ∀ j : S256x6144.Idx, X j = G (ix2 (row t (j 0)) (j 1))) :
    (cfg0.win 4).cut (grid0.coords t) X = ((cfg0.win 4).blk t).view.read (Elt Ideal) G := by
  funext j
  show X j = G (((cfg0.win 4).blk t).view.emb j)
  exact (h j).trans (congrArg G (emb4 t j).symm)

theorem cut5 (t : Fin cfg0.N) (X : Vec Ideal S1x1x256 .f32) (G : Vec Ideal S8x1x256 .f32)
    (h : ∀ j : S1x1x256.Idx, X j = G (ix3 (blk t) (j 1) (j 2))) :
    (cfg0.win 5).cut (grid0.coords t) X = ((cfg0.win 5).blk t).view.read (Elt Ideal) G := by
  funext j
  show X j = G (((cfg0.win 5).blk t).view.emb j)
  exact (h j).trans (congrArg G (emb5 t j).symm)

/-- What point `t` writes of the product is its rows of the reference's product. -/
theorem flushed3_eq (c : Dev nD) (t : Fin cfg0.N) : (dats m 0 c).flushed 3 t = ((cfg0.win 3).blk t).view.read (Elt Ideal)
    (dx (V m c main_arg0) (V m c main_arg1) (m ((c : Thread nD τ).loc main_arg2))) := by
  rw [flushed3_A, Block.out3, iblk0, iblk2, entry0]
  exact cut3 t _ _ (at3 (V m c main_arg0) (V m c main_arg1) (m ((c : Thread nD τ).loc main_arg2)) (iblk m c 1 t) t (iblk1 m c t))

/-- What point `t` writes of the codes is its rows of the reference's codes. -/
theorem flushed4_eq (c : Dev nD) (t : Fin cfg0.N) : (dats m 0 c).flushed 4 t = ((cfg0.win 4).blk t).view.read (Elt Ideal)
    (Cert.DxRefIdeal.Gen.k0_pay3 (F := Ideal) (perm (V m c main_arg0))) := by
  rw [flushed4_A, Block.out4]
  exact cut4 t _ _ (at4 (V m c main_arg0) (iblk m c 1 t) t (iblk1 m c t))

/-- What point `t` writes of the scales is its row of the reference's scales. -/
theorem flushed5_eq (c : Dev nD) (t : Fin cfg0.N) : (dats m 0 c).flushed 5 t = ((cfg0.win 5).blk t).view.read (Elt Ideal)
    (Cert.DxRefIdeal.Gen.k0_pay4 (F := Ideal) (perm (V m c main_arg0))) := by
  rw [flushed5_A, Block.out5]
  exact cut5 t _ _ (at5 (V m c main_arg0) (iblk m c 1 t) t (iblk1 m c t))

theorem covered3 (i : S2048x2048.Idx) : ∃ t : Fin cfg0.N, (cfg0.win 3).flush t = true ∧ i ∈ ((cfg0.win 3).blk t).view.set := by
  have hi : (i 0).val < 2048 := (i 0).isLt
  refine ⟨(⟨(i 0).val / 256, by show _ < 8; omega⟩ : Fin cfg0.N), flush0_3 _, ?_⟩
  have h := ((cfg0.win 3).blk (⟨(i 0).val / 256, by show _ < 8; omega⟩ : Fin cfg0.N)).view.emb_mem_set
    (ix2 (⟨(i 0).val % 256, by omega⟩ : Fin 256) (i 1))
  rw [emb3] at h
  refine (congrArg (· ∈ _) (funext fun a => ?_)).mpr h
  match a with
  | ⟨0, _⟩ => apply Fin.ext; show (i 0).val = (i 0).val / 256 * 256 + (i 0).val % 256; omega
  | ⟨1, _⟩ => rfl

theorem covered4 (i : S2048x6144.Idx) : ∃ t : Fin cfg0.N, (cfg0.win 4).flush t = true ∧ i ∈ ((cfg0.win 4).blk t).view.set := by
  have hi : (i 0).val < 2048 := (i 0).isLt
  refine ⟨(⟨(i 0).val / 256, by show _ < 8; omega⟩ : Fin cfg0.N), flush0_4 _, ?_⟩
  have h := ((cfg0.win 4).blk (⟨(i 0).val / 256, by show _ < 8; omega⟩ : Fin cfg0.N)).view.emb_mem_set
    (ix2 (⟨(i 0).val % 256, by omega⟩ : Fin 256) (i 1))
  rw [emb4] at h
  refine (congrArg (· ∈ _) (funext fun a => ?_)).mpr h
  match a with
  | ⟨0, _⟩ => apply Fin.ext; show (i 0).val = (i 0).val / 256 * 256 + (i 0).val % 256; omega
  | ⟨1, _⟩ => rfl

theorem covered5 (i : S8x1x256.Idx) : ∃ t : Fin cfg0.N, (cfg0.win 5).flush t = true ∧ i ∈ ((cfg0.win 5).blk t).view.set := by
  have hi : (i 0).val < 8 := (i 0).isLt
  refine ⟨(⟨(i 0).val, by show _ < 8; omega⟩ : Fin cfg0.N), flush0_5 _, ?_⟩
  have h := ((cfg0.win 5).blk (⟨(i 0).val, by show _ < 8; omega⟩ : Fin cfg0.N)).view.emb_mem_set (ix3 (0 : Fin 1) (i 1) (i 2))
  rw [emb5] at h
  refine (congrArg (· ∈ _) (funext fun a => ?_)).mpr h
  match a with
  | ⟨0, _⟩ => rfl
  | ⟨1, _⟩ => rfl
  | ⟨2, _⟩ => rfl

/-- The input gradient after the run is the reference's of the same arguments. -/
theorem final3 (c : Dev nD) : (dats m 0 c).arrAt 3 cfg0.N
    = dx (m ((c : Thread nD τ).loc main_arg0)) (m ((c : Thread nD τ).loc main_arg1)) (m ((c : Thread nD τ).loc main_arg2)) :=
  ((dats m 0 c).arrAt_eq_of_cover 3 _ (fun t _ => flushed3_eq m c t) covered3).trans (by rw [V_main_arg0, V_main_arg1])

/-- The codes after the run are the reference's codes of the same argument. -/
theorem final4 (c : Dev nD) : (dats m 0 c).arrAt 4 cfg0.N = Cert.DxRefIdeal.Gen.k0_pay3 (F := Ideal) (perm (m ((c : Thread nD τ).loc main_arg0))) :=
  ((dats m 0 c).arrAt_eq_of_cover 4 _ (fun t _ => flushed4_eq m c t) covered4).trans (by rw [V_main_arg0])

/-- The scales after the run are the reference's scales of the same argument. -/
theorem final5 (c : Dev nD) : (dats m 0 c).arrAt 5 cfg0.N = Cert.DxRefIdeal.Gen.k0_pay4 (F := Ideal) (perm (m ((c : Thread nD τ).loc main_arg0))) :=
  ((dats m 0 c).arrAt_eq_of_cover 5 _ (fun t _ => flushed5_eq m c t) covered5).trans (by rw [V_main_arg0])

/-- The kernel's run: its three results are the reference's functions of its arguments, and these are unchanged. -/
theorem run (ρ : Dev nD → PrngReg) : θ_run defs (onTc (τ := τ) (main (F := Ideal))) ⟨m, fun _ => 0, ρ⟩ fun r => ∀ c : Dev nD,
      r.2.mem ((c : Thread nD τ).loc main_v1_0)
          = dx (m ((c : Thread nD τ).loc main_arg0)) (m ((c : Thread nD τ).loc main_arg1)) (m ((c : Thread nD τ).loc main_arg2))
      ∧ r.2.mem ((c : Thread nD τ).loc main_v1_1) = Cert.DxRefIdeal.Gen.k0_pay3 (F := Ideal) (perm (m ((c : Thread nD τ).loc main_arg0)))
      ∧ r.2.mem ((c : Thread nD τ).loc main_v1_2) = Cert.DxRefIdeal.Gen.k0_pay4 (F := Ideal) (perm (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c), (h c).2.2.2⟩)
    (run_blocks m ρ)

end Cert.DxIdeal.Arrays

namespace Cert.DxClaims
open Cert.DxRefIdeal.Arrays (perm one dx)

/-- The input gradient, the codes of the projected row's gradient and their scales: from the same arguments the kernel and the
    reference end with the same three arrays over the extended reals. -/
theorem algebraic [hK : Cert.DxIdeal.Facts] [hR : Cert.DxRefIdeal.Facts] : Cert.algebraic_DxIdeal_DxRefIdeal := by
  intro m ρ m' ρ' _ hagree
  refine ⟨fun c => dx (m ((c : Thread Cert.DxIdeal.nD Cert.DxIdeal.τ).loc Cert.DxIdeal.main_arg0))
      (m ((c : Thread Cert.DxIdeal.nD Cert.DxIdeal.τ).loc Cert.DxIdeal.main_arg1)) (m ((c : Thread Cert.DxIdeal.nD Cert.DxIdeal.τ).loc Cert.DxIdeal.main_arg2)),
    fun c => Cert.DxRefIdeal.Gen.k0_pay3 (F := Ideal) (perm (m ((c : Thread Cert.DxIdeal.nD Cert.DxIdeal.τ).loc Cert.DxIdeal.main_arg0))),
    fun c => Cert.DxRefIdeal.Gen.k0_pay4 (F := Ideal) (perm (m ((c : Thread Cert.DxIdeal.nD Cert.DxIdeal.τ).loc Cert.DxIdeal.main_arg0))),
    Cert.DxIdeal.Arrays.run m ρ, ?_⟩
  refine (θ_run Cert.DxRefIdeal.defs _ _).mono (fun _ h c => ?_) (Cert.DxRefIdeal.Arrays.run m' ρ')
  obtain ⟨h0, h1, h2, h3⟩ := h c
  rw [(hagree c).1] at h0 h1 h2
  rw [(hagree c).2.1, (hagree c).2.2] at h0
  exact ⟨h0, h1, h2, h3⟩

end Cert.DxClaims

end
-- ==== Proof.DwOutPay.lean ====
module

public import proofs.«01_k».proof.Proof.Quant
public import proofs.«01_k».proof.Proof.Gen.DwOutIdeal.Skeleton
public import proofs.«01_k».proof.Proof.Gen.DwOutRefIdeal.Skeleton

@[expose] public section

set_option maxRecDepth 16384

noncomputable section

open Idealize.ShloMosaic Idealize.SL.Sem

namespace Cert.DwOutIdeal.Pay
open Cert.DwOutIdeal Cert.DwOutIdeal.Gen Cert.Quant

/-- The scales of a block of 256 columns, as the row the kernel writes. -/
theorem pay2 (v : Vec Ideal S2048x256 .f32) (i : S1x256.Idx) :
    k0_pay2 (F := Ideal) v i = scale 0x43E00000#32 (amax fun k => v (ix2 k (i 1))) := by
  unfold k0_pay2
  exact (scale_apply 0x43E00000#32 _ i).trans (congrArg (scale _) ((castRow _ _ i).trans (congrFun (colmax v _ _ _) _)))

/-- The codes of a block of 256 columns. -/
theorem pay3 (v : Vec Ideal S2048x256 .f32) (i : S2048x256.Idx) :
    k0_pay3 (F := Ideal) v i = code 0xC3E00000#32 0x43E00000#32 (v i) (scale 0x43E00000#32 (amax fun k => v (ix2 k (i 1)))) := by
  unfold k0_pay3
  exact (clip_apply 0xC3E00000#32 0x43E00000#32 v _ i).trans (congrArg (code _ _ _) ((bcastRow _ _ i).trans (pay2 v _)))

/-- The codes as the product reads them are the codes written. -/
theorem pay5 (v : Vec Ideal S2048x256 .f32) (i : S2048x256.Idx) : k0_pay5 (F := Ideal) v i = k0_pay3 (F := Ideal) v i := rfl

/-- The scales of a block turned into a column. -/
theorem pay4 (v : Vec Ideal S2048x256 .f32) (i : S256x1.Idx) :
    k0_pay4 (F := Ideal) v i = scale 0x43E00000#32 (amax fun k => v (ix2 k (i 0))) := by
  have hi : (i 0).val < 256 := (i 0).isLt
  have hi1 : (i 1).val < 1 := (i 1).isLt
  unfold k0_pay4
  by_cases h : (i 0).val < 128
  · refine (concatenate_pair_apply_left (t := S256x1) (s₁ := S128x1) (s₂ := S128x1) (0 : Fin 2) _ _ _ i rfl (ix2 (n1 := 1) (⟨(i 0).val, h⟩ : Fin 128) 0) fun a => ?_).trans ?_
    · match a with
      | ⟨0, _⟩ => rfl
      | ⟨1, _⟩ => show (0 : Nat) = (i 1).val; omega
    · refine (castCol _ _ _).trans ((diagCol (by decide) _ _ _ _ _ _ _ _ _).trans ?_)
      refine (extractStridedSlice_apply _ _ _ _ (ix2 0 (i 0)) fun a => ?_).trans (pay2 v _)
      match a with
      | ⟨0, _⟩ => rfl
      | ⟨1, _⟩ => show (i 0).val = 0 + (i 0).val; omega
  · refine (concatenate_pair_apply_right (t := S256x1) (s₁ := S128x1) (s₂ := S128x1) (0 : Fin 2) _ _ _ i rfl rfl (ix2 (n1 := 1) (⟨(i 0).val - 128, by omega⟩ : Fin 128) 0) (fun a ha => ?_) ?_).trans ?_
    · match a with
      | ⟨0, _⟩ => exact absurd rfl ha
      | ⟨1, _⟩ => show (0 : Nat) = (i 1).val; omega
    · show (i 0).val - 128 + 128 = (i 0).val; omega
    · refine (castCol _ _ _).trans ((diagCol (by decide) _ _ _ _ _ _ _ _ _).trans ?_)
      refine (extractStridedSlice_apply _ _ _ _ (ix2 0 (i 0)) fun a => ?_).trans (pay2 v _)
      match a with
      | ⟨0, _⟩ => rfl
      | ⟨1, _⟩ => show (i 0).val = 128 + ((i 0).val - 128); omega

/-- The product of two blocks over the tokens, at an index. -/
theorem dot (c : FVec Ideal S2048x256 .bf16) (w : Vec Ideal S2048x2048 .bf16) (i : S256x2048.Idx) :
    matmul (F := Ideal) (φ₂ := .bf16) dot_S2048x256_S2048x2048_S256x2048_0_0_1_1_n_n none c w (constant S256x2048 .f32 0x00000000#32) i
      = dotE (fun k : Fin 2048 => c (ix2 k (i 0))) fun k => w (ix2 k (i 1)) := by
  unfold dotE
  simp only [pointwise]
  simp (decide := true)

/-- The product of the codes, the rows of it scaled. -/
theorem pay1 (s : FVec Ideal S256x1 .f32) (c : FVec Ideal S2048x256 .bf16) (w : Vec Ideal S2048x2048 .bf16) (i : S256x2048.Idx) :
    k0_pay1 (F := Ideal) s c w i = mulE (s (ix2 (i 0) 0)) (dotE (fun k : Fin 2048 => c (ix2 k (i 0))) fun k => w (ix2 k (i 1))) := by
  unfold k0_pay1
  exact (mulf_at _ _ i).trans (congrArg₂ mulE (bcastCol _ _ i) (dot c w i))

end Cert.DwOutIdeal.Pay

namespace Cert.DwOutRefIdeal.Pay
open Cert.DwOutRefIdeal Cert.DwOutRefIdeal.Gen Cert.Quant

/-- The reference's scale of each column. -/
theorem pay1 (v : Vec Ideal S2048x3072 .f32) (i : S3072.Idx) :
    k0_pay1 (F := Ideal) v i = scale 0x43E00000#32 (amax fun k => v (ix2 k (i 0))) := by
  unfold k0_pay1
  exact (scale_apply 0x43E00000#32 _ i).trans (congrArg (scale _) (congrFun (colmax v _ _ _) _))

/-- The reference's codes. -/
theorem pay2 (v : Vec Ideal S2048x3072 .f32) (i : S2048x3072.Idx) :
    k0_pay2 (F := Ideal) v i = code 0xC3E00000#32 0x43E00000#32 (v i) (scale 0x43E00000#32 (amax fun k => v (ix2 k (i 1)))) := by
  unfold k0_pay2
  exact (clip_apply 0xC3E00000#32 0x43E00000#32 v _ i).trans
    (congrArg (code _ _ _) ((bcastRow _ _ i).trans ((castRow _ _ _).trans (pay1 v _))))

/-- The reference's scales as a row. -/
theorem pay3 (v : Vec Ideal S2048x3072 .f32) (i : S1x3072.Idx) :
    k0_pay3 (F := Ideal) v i = scale 0x43E00000#32 (amax fun k => v (ix2 k (i 1))) := by
  unfold k0_pay3
  exact (castRow _ _ _).trans (pay1 v _)

/-- The product of the reference, at an index. -/
theorem dot (c : FVec Ideal S2048x3072 .bf16) (w : Vec Ideal S2048x2048 .bf16) (i : S3072x2048.Idx) :
    matmul (F := Ideal) (φ₂ := .bf16) dot_S2048x3072_S2048x2048_S3072x2048_0_0_1_1_n_n none c w (constant S3072x2048 .f32 0x00000000#32) i
      = dotE (fun k : Fin 2048 => c (ix2 k (i 0))) fun k => w (ix2 k (i 1)) := by
  unfold dotE
  simp only [pointwise]
  simp (decide := true)

/-- The reference's product, the rows of it scaled. -/
theorem pay4 (v : Vec Ideal S2048x3072 .f32) (w : Vec Ideal S2048x2048 .bf16) (i : S3072x2048.Idx) :
    k0_pay4 (F := Ideal) v w i = mulE (scale 0x43E00000#32 (amax fun k => v (ix2 k (i 0))))
      (dotE (fun k : Fin 2048 => k0_pay2 (F := Ideal) v (ix2 k (i 0))) fun k => w (ix2 k (i 1))) := by
  unfold k0_pay4
  exact (mulf_at _ _ i).trans (congrArg₂ mulE ((bcastCol _ _ i).trans ((castCol _ _ _).trans (pay1 v _)))
    (dot (extf .bf16 (k0_pay2 (F := Ideal) v) bitsLt_fp8e4m3_bf16) w i))

end Cert.DwOutRefIdeal.Pay

end
-- ==== Proof.DwOutValue.lean ====
module

public import proofs.«01_k».proof.Defs
public import proofs.«01_k».proof.Proof.DwOutPay
public import proofs.«01_k».proof.Proof.Gen.DwOutIdeal.Value
public import proofs.«01_k».proof.Proof.Gen.DwOutRefIdeal.Value

@[expose] public section

set_option maxRecDepth 16384

noncomputable section

open Idealize.ShloMosaic Idealize.ShloMosaic.TcCoe Idealize.SL.Sem
open Cert.Quant

namespace Cert.DwOutIdeal.Arrays
open Cert.DwOutIdeal Cert.DwOutIdeal.Gen Cert.DwOutIdeal.Value

variable (m : (ℓ : Loc nD τ sig) → Buf (Elt Ideal) ℓ)

theorem hz : (![0, 0] : Fin 2 → Nat) = fun _ => 0 := funext fun a => by fin_cases a <;> rfl

/-- Point `t` reads and writes the block `t` along the columns (the rows, for the product). -/
theorem idx : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = t.val ∧ win0_4.index t (1 : Fin 2) = 0 :=
  (by decide +kernel : ∀ t : Fin grid0.N, _)

/-- Column `j` of block `t`. -/
def col (t : Fin cfg0.N) (j : Fin 256) : Fin 3072 := ⟨t.val * 256 + j.val, by have : t.val < 12 := t.isLt; omega⟩

theorem emb0 (t : Fin cfg0.N) (j : S2048x256.Idx) : ((cfg0.win 0).blk t).view.emb j = ix2 (j 0) (col t (j 1)) := by
  obtain ⟨a0, a1, -⟩ := idx t
  funext a; apply Fin.ext
  match a with
  | ⟨0, _⟩ => show win0_0.index t (0 : Fin 2) * 2048 + 1 * (j 0).val = (j 0).val; omega
  | ⟨1, _⟩ => show win0_0.index t (1 : Fin 2) * 256 + 1 * (j 1).val = t.val * 256 + (j 1).val; omega

theorem emb1 (t : Fin cfg0.N) (j : S2048x2048.Idx) : ((cfg0.win 1).blk t).view.emb j = j := by
  obtain ⟨-, -, a0, a1, -⟩ := idx t
  funext a; apply Fin.ext
  match a with
  | ⟨0, _⟩ => show win0_1.index t (0 : Fin 2) * 2048 + 1 * (j 0).val = (j 0).val; omega
  | ⟨1, _⟩ => show win0_1.index t (1 : Fin 2) * 2048 + 1 * (j 1).val = (j 1).val; omega

theorem emb2 (t : Fin cfg0.N) (j : S2048x256.Idx) : ((cfg0.win 2).blk t).view.emb j = ix2 (j 0) (col t (j 1)) := by
  obtain ⟨-, -, -, -, a0, a1, -⟩ := idx t
  funext a; apply Fin.ext
  match a with
  | ⟨0, _⟩ => show win0_2.index t (0 : Fin 2) * 2048 + 1 * (j 0).val = (j 0).val; omega
  | ⟨1, _⟩ => show win0_2.index t (1 : Fin 2) * 256 + 1 * (j 1).val = t.val * 256 + (j 1).val; omega

theorem emb3 (t : Fin cfg0.N) (j : S1x256.Idx) : ((cfg0.win 3).blk t).view.emb j = ix2 (j 0) (col t (j 1)) := by
  obtain ⟨-, -, -, -, -, -, a0, a1, -⟩ := idx t
  funext a; apply Fin.ext
  match a with
  | ⟨0, _⟩ => show win0_3.index t (0 : Fin 2) * 1 + 1 * (j 0).val = (j 0).val; omega
  | ⟨1, _⟩ => show win0_3.index t (1 : Fin 2) * 256 + 1 * (j 1).val = t.val * 256 + (j 1).val; omega

theorem emb4 (t : Fin cfg0.N) (j : S256x2048.Idx) : ((cfg0.win 4).blk t).view.emb j = ix2 (col t (j 0)) (j 1) := by
  obtain ⟨-, -, -, -, -, -, -, -, a0, a1⟩ := idx t
  funext a; apply Fin.ext
  match a with
  | ⟨0, _⟩ => show win0_4.index t (0 : Fin 2) * 256 + 1 * (j 0).val = t.val * 256 + (j 0).val; omega
  | ⟨1, _⟩ => show win0_4.index t (1 : Fin 2) * 2048 + 1 * (j 1).val = (j 1).val; omega

/-- The block of `y` at point `t`. -/
theorem iblk0 (c : Dev nD) (t : Fin cfg0.N) (j : S2048x256.Idx) : iblk m c 0 t j = V m c main_arg0 (ix2 (j 0) (col t (j 1))) := by
  show V m c main_arg0 (((cfg0.win 0).blk t).view.emb j) = _
  exact congrArg (V m c main_arg0) (emb0 t j)

theorem iblk1 (c : Dev nD) (t : Fin cfg0.N) : iblk m c 1 t = V m c main_arg1 := by
  funext j
  show V m c main_arg1 (((cfg0.win 1).blk t).view.emb j) = _
  rw [emb1]

theorem out2 (x0 : Vec Ideal S2048x256 .f32) (x1 : Vec Ideal S2048x2048 .bf16) : out0_2 (F := Ideal) x0 x1 = k0_pay3 x0 := by
  unfold out0_2
  rw [View.canon_unit_zero hz, View.ld_unit_zero (S := S2048x256) hz _ x0]

theorem out3 (x0 : Vec Ideal S2048x256 .f32) (x1 : Vec Ideal S2048x2048 .bf16) : out0_3 (F := Ideal) x0 x1 = k0_pay2 x0 := by
  unfold out0_3
  rw [View.canon_unit_zero hz, View.ld_unit_zero (S := S2048x256) hz _ x0]

theorem out4 (x0 : Vec Ideal S2048x256 .f32) (x1 : Vec Ideal S2048x2048 .bf16) :
    out0_4 (F := Ideal) x0 x1 = k0_pay1 (k0_pay4 x0) (k0_pay5 x0) x1 := by
  unfold out0_4
  rw [View.canon_unit_zero hz, View.ld_unit_zero (S := S2048x256) hz _ x0, View.ld_unit_zero (S := S2048x2048) hz _ x1]

/-- The largest absolute value of a column of the block is that of the array's column. -/
theorem colOf (c : Dev nD) (t : Fin cfg0.N) (j : Fin 256) :
    (fun k : Fin 2048 => iblk m c 0 t (ix2 k j)) = fun k => V m c main_arg0 (ix2 k (col t j)) :=
  funext fun k => iblk0 m c t (ix2 k j)

/-- The codes of block `t` are the reference's codes there. -/
theorem at2 (c : Dev nD) (t : Fin cfg0.N) (j : S2048x256.Idx) : k0_pay3 (F := Ideal) (iblk m c 0 t) j
    = Cert.DwOutRefIdeal.Gen.k0_pay2 (F := Ideal) (V m c main_arg0) (ix2 (j 0) (col t (j 1))) :=
  (Pay.pay3 (iblk m c 0 t) j).trans (Eq.trans
    (congrArg₂ (fun x f => code 0xC3E00000#32 0x43E00000#32 x (scale 0x43E00000#32 (amax (n := 2048) f))) (iblk0 m c t j) (colOf m c t (j 1)))
    (Cert.DwOutRefIdeal.Pay.pay2 (V m c main_arg0) (ix2 (j 0) (col t (j 1)))).symm)

/-- The scales of block `t` are the reference's scales there. -/
theorem at3 (c : Dev nD) (t : Fin cfg0.N) (j : S1x256.Idx) : k0_pay2 (F := Ideal) (iblk m c 0 t) j
    = Cert.DwOutRefIdeal.Gen.k0_pay3 (F := Ideal) (V m c main_arg0) (ix2 (j 0) (col t (j 1))) :=
  (Pay.pay2 (iblk m c 0 t) j).trans (Eq.trans
    (congrArg (fun f => scale 0x43E00000#32 (amax (n := 2048) f)) (colOf m c t (j 1)))
    (Cert.DwOutRefIdeal.Pay.pay3 (V m c main_arg0) (ix2 (j 0) (col t (j 1)))).symm)

/-- The product's rows of block `t` are the reference's. -/
theorem at4 (c : Dev nD) (t : Fin cfg0.N) (w : Vec Ideal S2048x2048 .bf16) (j : S256x2048.Idx) :
    k0_pay1 (F := Ideal) (k0_pay4 (iblk m c 0 t)) (k0_pay5 (iblk m c 0 t)) w j
    = Cert.DwOutRefIdeal.Gen.k0_pay4 (F := Ideal) (V m c main_arg0) w (ix2 (col t (j 0)) (j 1)) := by
  refine (Pay.pay1 _ _ w j).trans (Eq.trans ?_ (Cert.DwOutRefIdeal.Pay.pay4 (V m c main_arg0) w (ix2 (col t (j 0)) (j 1))).symm)
  refine congrArg₂ mulE ?_ (congrArg₂ dotE (funext fun k => ?_) rfl)
  · exact (Pay.pay4 (iblk m c 0 t) (ix2 (j 0) 0)).trans (congrArg (fun f => scale 0x43E00000#32 (amax (n := 2048) f)) (colOf m c t (j 0)))
  · exact (Pay.pay5 (iblk m c 0 t) (ix2 k (j 0))).trans (at2 m c t (ix2 k (j 0)))

/-- A block that reads `G` at its place is what the window's view reads of `G`. -/
theorem cut2 (t : Fin cfg0.N) (X : Vec Ideal S2048x256 .fp8e4m3) (G : Vec Ideal S2048x3072 .fp8e4m3)
    (h : ∀ j : S2048x256.Idx, X j = G (ix2 (j 0) (col t (j 1)))) :
    (cfg0.win 2).cut (grid0.coords t) X = ((cfg0.win 2).blk t).view.read (Elt Ideal) G := by
  funext j
  show X j = G (((cfg0.win 2).blk t).view.emb j)
  exact (h j).trans (congrArg G (emb2 t j).symm)

theorem cut3 (t : Fin cfg0.N) (X : Vec Ideal S1x256 .f32) (G : Vec Ideal S1x3072 .f32)
    (h : ∀ j : S1x256.Idx, X j = G (ix2 (j 0) (col t (j 1)))) :
    (cfg0.win 3).cut (grid0.coords t) X = ((cfg0.win 3).blk t).view.read (Elt Ideal) G := by
  funext j
  show X j = G (((cfg0.win 3).blk t).view.emb j)
  exact (h j).trans (congrArg G (emb3 t j).symm)

theorem cut4 (t : Fin cfg0.N) (X : Vec Ideal S256x2048 .f32) (G : Vec Ideal S3072x2048 .f32)
    (h : ∀ j : S256x2048.Idx, X j = G (ix2 (col t (j 0)) (j 1))) :
    (cfg0.win 4).cut (grid0.coords t) X = ((cfg0.win 4).blk t).view.read (Elt Ideal) G := by
  funext j
  show X j = G (((cfg0.win 4).blk t).view.emb j)
  exact (h j).trans (congrArg G (emb4 t j).symm)

/-- What point `t` writes of the codes is its block of the reference's codes. -/
theorem flushed2_eq (c : Dev nD) (t : Fin cfg0.N) :
    (dats m 0 c).flushed 2 t = ((cfg0.win 2).blk t).view.read (Elt Ideal) (Cert.DwOutRefIdeal.Gen.k0_pay2 (F := Ideal) (V m c main_arg0)) := by
  rw [flushed2, out2]
  exact cut2 t _ _ (at2 m c t)

/-- What point `t` writes of the scales is its block of the reference's scales. -/
theorem flushed3_eq (c : Dev nD) (t : Fin cfg0.N) :
    (dats m 0 c).flushed 3 t = ((cfg0.win 3).blk t).view.read (Elt Ideal) (Cert.DwOutRefIdeal.Gen.k0_pay3 (F := Ideal) (V m c main_arg0)) := by
  rw [flushed3, out3]
  exact cut3 t _ _ (at3 m c t)

/-- What point `t` writes of the product is its block of the reference's product. -/
theorem flushed4_eq (c : Dev nD) (t : Fin cfg0.N) :
    (dats m 0 c).flushed 4 t = ((cfg0.win 4).blk t).view.read (Elt Ideal)
      (Cert.DwOutRefIdeal.Gen.k0_pay4 (F := Ideal) (V m c main_arg0) (V m c main_arg1)) := by
  rw [flushed4, out4, iblk1]
  exact cut4 t _ _ (at4 m c t (V m c main_arg1))

theorem covered2 (i : S2048x3072.Idx) : ∃ t : Fin cfg0.N, (cfg0.win 2).flush t = true ∧ i ∈ ((cfg0.win 2).blk t).view.set := by
  have hi : (i 1).val < 3072 := (i 1).isLt
  refine ⟨(⟨(i 1).val / 256, by show _ < 12; omega⟩ : Fin cfg0.N), flush0_2 _, ?_⟩
  have h := ((cfg0.win 2).blk (⟨(i 1).val / 256, by show _ < 12; omega⟩ : Fin cfg0.N)).view.emb_mem_set
    (ix2 (i 0) (⟨(i 1).val % 256, by omega⟩ : Fin 256))
  rw [emb2] at h
  refine (congrArg (· ∈ _) (funext fun a => ?_)).mpr h
  match a with
  | ⟨0, _⟩ => rfl
  | ⟨1, _⟩ => apply Fin.ext; show (i 1).val = (i 1).val / 256 * 256 + (i 1).val % 256; omega

theorem covered3 (i : S1x3072.Idx) : ∃ t : Fin cfg0.N, (cfg0.win 3).flush t = true ∧ i ∈ ((cfg0.win 3).blk t).view.set := by
  have hi : (i 1).val < 3072 := (i 1).isLt
  refine ⟨(⟨(i 1).val / 256, by show _ < 12; omega⟩ : Fin cfg0.N), flush0_3 _, ?_⟩
  have h := ((cfg0.win 3).blk (⟨(i 1).val / 256, by show _ < 12; omega⟩ : Fin cfg0.N)).view.emb_mem_set
    (ix2 (i 0) (⟨(i 1).val % 256, by omega⟩ : Fin 256))
  rw [emb3] at h
  refine (congrArg (· ∈ _) (funext fun a => ?_)).mpr h
  match a with
  | ⟨0, _⟩ => rfl
  | ⟨1, _⟩ => apply Fin.ext; show (i 1).val = (i 1).val / 256 * 256 + (i 1).val % 256; omega

theorem covered4 (i : S3072x2048.Idx) : ∃ t : Fin cfg0.N, (cfg0.win 4).flush t = true ∧ i ∈ ((cfg0.win 4).blk t).view.set := by
  have hi : (i 0).val < 3072 := (i 0).isLt
  refine ⟨(⟨(i 0).val / 256, by show _ < 12; omega⟩ : Fin cfg0.N), flush0_4 _, ?_⟩
  have h := ((cfg0.win 4).blk (⟨(i 0).val / 256, by show _ < 12; omega⟩ : Fin cfg0.N)).view.emb_mem_set
    (ix2 (⟨(i 0).val % 256, by omega⟩ : Fin 256) (i 1))
  rw [emb4] at h
  refine (congrArg (· ∈ _) (funext fun a => ?_)).mpr h
  match a with
  | ⟨0, _⟩ => apply Fin.ext; show (i 0).val = (i 0).val / 256 * 256 + (i 0).val % 256; omega
  | ⟨1, _⟩ => rfl

/-- The codes after the run are the reference's codes of the same argument. -/
theorem final2 (c : Dev nD) : (dats m 0 c).arrAt 2 cfg0.N = Cert.DwOutRefIdeal.Gen.k0_pay2 (F := Ideal) (m ((c : Thread nD τ).loc main_arg0)) :=
  ((dats m 0 c).arrAt_eq_of_cover 2 (Cert.DwOutRefIdeal.Gen.k0_pay2 (F := Ideal) (V m c main_arg0)) (fun t _ => flushed2_eq m c t) covered2).trans
    (by rw [V_main_arg0])

/-- The scales after the run are the reference's scales of the same argument. -/
theorem final3 (c : Dev nD) : (dats m 0 c).arrAt 3 cfg0.N = Cert.DwOutRefIdeal.Gen.k0_pay3 (F := Ideal) (m ((c : Thread nD τ).loc main_arg0)) :=
  ((dats m 0 c).arrAt_eq_of_cover 3 (Cert.DwOutRefIdeal.Gen.k0_pay3 (F := Ideal) (V m c main_arg0)) (fun t _ => flushed3_eq m c t) covered3).trans
    (by rw [V_main_arg0])

/-- The weight gradient after the run is the reference's of the same arguments. -/
theorem final4 (c : Dev nD) : (dats m 0 c).arrAt 4 cfg0.N
    = Cert.DwOutRefIdeal.Gen.k0_pay4 (F := Ideal) (m ((c : Thread nD τ).loc main_arg0)) (m ((c : Thread nD τ).loc main_arg1)) :=
  ((dats m 0 c).arrAt_eq_of_cover 4 (Cert.DwOutRefIdeal.Gen.k0_pay4 (F := Ideal) (V m c main_arg0) (V m c main_arg1))
    (fun t _ => flushed4_eq m c t) covered4).trans (by rw [V_main_arg0, V_main_arg1])

/-- The kernel's run: its three results are the reference's functions of its arguments, and these are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = Cert.DwOutRefIdeal.Gen.k0_pay2 (F := Ideal) (m ((c : Thread nD τ).loc main_arg0))
      ∧ r.2.mem ((c : Thread nD τ).loc main_v0_1) = Cert.DwOutRefIdeal.Gen.k0_pay3 (F := Ideal) (m ((c : Thread nD τ).loc main_arg0))
      ∧ r.2.mem ((c : Thread nD τ).loc main_v0_2)
          = Cert.DwOutRefIdeal.Gen.k0_pay4 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1.trans (final4 m c), (h c).2.2.2⟩)
    (run_blocks m ρ)

end Cert.DwOutIdeal.Arrays

namespace Cert.DwOutClaims

/-- The weight gradient of the output projection, its codes and its scales: from the same arguments the kernel and the
    reference end with the same three arrays over the extended reals. -/
theorem algebraic [hK : Cert.DwOutIdeal.Facts] [hR : Cert.DwOutRefIdeal.Facts] : Cert.algebraic_DwOutIdeal_DwOutRefIdeal := by
  intro m ρ m' ρ' _ hagree
  refine ⟨fun c => Cert.DwOutRefIdeal.Gen.k0_pay2 (F := Ideal) (m ((c : Thread Cert.DwOutIdeal.nD Cert.DwOutIdeal.τ).loc Cert.DwOutIdeal.main_arg0)),
    fun c => Cert.DwOutRefIdeal.Gen.k0_pay3 (F := Ideal) (m ((c : Thread Cert.DwOutIdeal.nD Cert.DwOutIdeal.τ).loc Cert.DwOutIdeal.main_arg0)),
    fun c => Cert.DwOutRefIdeal.Gen.k0_pay4 (F := Ideal) (m ((c : Thread Cert.DwOutIdeal.nD Cert.DwOutIdeal.τ).loc Cert.DwOutIdeal.main_arg0))
      (m ((c : Thread Cert.DwOutIdeal.nD Cert.DwOutIdeal.τ).loc Cert.DwOutIdeal.main_arg1)),
    Cert.DwOutIdeal.Arrays.run m ρ, ?_⟩
  refine (θ_run Cert.DwOutRefIdeal.defs _ _).mono (fun _ h c => ?_) (Cert.DwOutRefIdeal.Value.run (F := Ideal) m' ρ')
  obtain ⟨h0, h1, h2, h3⟩ := h c
  rw [(hagree c).1] at h0 h1 h2
  rw [(hagree c).2] at h2
  exact ⟨h0, h1, h2, h3⟩

end Cert.DwOutClaims

end
-- ==== Proof.DwQkvPay.lean ====
module

public import proofs.«01_k».proof.Proof.Order
public import proofs.«01_k».proof.Proof.Gen.DwQkvIdeal.Skeleton
public import proofs.«01_k».proof.Proof.Gen.DwQkvRefIdeal.Skeleton

@[expose] public section

set_option maxRecDepth 16384

noncomputable section

open Idealize.ShloMosaic Idealize.SL.Sem

namespace Cert.DwQkvIdeal.Pay
open Cert.DwQkvIdeal Cert.DwQkvIdeal.Gen Cert.Quant

/-- A slab of 256 tokens of the input, scaled and transposed. -/
theorem pay1 (s : Vec Ideal S256x1 .f32) (x : Vec Ideal S256x2048 .fp8e4m3) (i : S2048x256.Idx) :
    k0_pay1 (F := Ideal) s x i = mulE (x (ix2 (i 1) (i 0))) (s (ix2 (i 1) 0)) := by
  unfold k0_pay1
  rw [shapeCast_self, shapeCast_self]
  refine (transpose_apply _ _ _ i (ix2 (i 1) (i 0)) fun a => ?_).trans ?_
  · match a with
    | ⟨0, _⟩ => rfl
    | ⟨1, _⟩ => rfl
  exact (mulf_at _ _ (ix2 (i 1) (i 0))).trans (congrArg (mulE _) (bcastCol _ _ _))

theorem pay2 (s : Vec Ideal S256x1 .f32) (x : Vec Ideal S256x2048 .fp8e4m3) (i : S2048x256.Idx) :
    k0_pay2 (F := Ideal) s x i = mulE (x (ix2 (i 1) (i 0))) (s (ix2 (i 1) 0)) := pay1 s x i
theorem pay6 (s : Vec Ideal S256x1 .f32) (x : Vec Ideal S256x2048 .fp8e4m3) (i : S2048x256.Idx) :
    k0_pay6 (F := Ideal) s x i = mulE (x (ix2 (i 1) (i 0))) (s (ix2 (i 1) 0)) := pay1 s x i
theorem pay7 (s : Vec Ideal S256x1 .f32) (x : Vec Ideal S256x2048 .fp8e4m3) (i : S2048x256.Idx) :
    k0_pay7 (F := Ideal) s x i = mulE (x (ix2 (i 1) (i 0))) (s (ix2 (i 1) 0)) := pay1 s x i
theorem pay8 (s : Vec Ideal S256x1 .f32) (x : Vec Ideal S256x2048 .fp8e4m3) (i : S2048x256.Idx) :
    k0_pay8 (F := Ideal) s x i = mulE (x (ix2 (i 1) (i 0))) (s (ix2 (i 1) 0)) := pay1 s x i
theorem pay9 (s : Vec Ideal S256x1 .f32) (x : Vec Ideal S256x2048 .fp8e4m3) (i : S2048x256.Idx) :
    k0_pay9 (F := Ideal) s x i = mulE (x (ix2 (i 1) (i 0))) (s (ix2 (i 1) 0)) := pay1 s x i
theorem pay10 (s : Vec Ideal S256x1 .f32) (x : Vec Ideal S256x2048 .fp8e4m3) (i : S2048x256.Idx) :
    k0_pay10 (F := Ideal) s x i = mulE (x (ix2 (i 1) (i 0))) (s (ix2 (i 1) 0)) := pay1 s x i
theorem pay11 (s : Vec Ideal S256x1 .f32) (x : Vec Ideal S256x2048 .fp8e4m3) (i : S2048x256.Idx) :
    k0_pay11 (F := Ideal) s x i = mulE (x (ix2 (i 1) (i 0))) (s (ix2 (i 1) 0)) := pay1 s x i

/-- The scales of a block of 256 columns. -/
theorem pay3 (v : Vec Ideal S2048x256 .f32) (i : S1x256.Idx) :
    k0_pay3 (F := Ideal) v i = scale 0x47600000#32 (amax fun k => v (ix2 k (i 1))) := by
  unfold k0_pay3
  exact (scale_apply 0x47600000#32 _ i).trans (congrArg (scale _) ((castRow _ _ i).trans (congrFun (colmax v _ _ _) _)))

/-- The codes of a block of 256 columns. -/
theorem pay4 (v : Vec Ideal S2048x256 .f32) (i : S2048x256.Idx) :
    k0_pay4 (F := Ideal) v i = code 0xC7600000#32 0x47600000#32 (v i) (scale 0x47600000#32 (amax fun k => v (ix2 k (i 1)))) := by
  unfold k0_pay4
  exact (clip_apply 0xC7600000#32 0x47600000#32 _ _ i).trans (congrArg (code _ _ _) ((bcastRow _ _ i).trans (pay3 v (ix2 0 (i 1)))))

/-- The product of the transposed input and a block of codes, at an index. -/
theorem dot (x : Vec Ideal S2048x2048 .bf16) (c : FVec Ideal S2048x256 .bf16) (i : S2048x256.Idx) :
    matmul (F := Ideal) (φ₁ := .bf16) (φ₂ := .bf16) dot_S2048x2048_S2048x256_S2048x256_1_0_0_1_n_n none x c (constant S2048x256 .f32 0x00000000#32) i
      = dotE (fun k : Fin 2048 => x (ix2 (i 0) k)) fun k => c (ix2 k (i 1)) := by
  unfold dotE
  simp only [pointwise]
  simp (decide := true)

/-- The product times the column's scale. -/
theorem pay5 (v : Vec Ideal S2048x256 .f32) (x : Vec Ideal S2048x2048 .bf16) (i : S2048x256.Idx) :
    k0_pay5 (F := Ideal) v x i = mulE (dotE (fun k : Fin 2048 => x (ix2 (i 0) k)) fun k => k0_pay4 (F := Ideal) v (ix2 k (i 1)))
      (k0_pay3 (F := Ideal) v (ix2 0 (i 1))) := by
  unfold k0_pay5
  exact (mulf_at _ _ i).trans (congrArg₂ mulE (dot x (extf .bf16 (k0_pay4 (F := Ideal) v) bitsLt_fp8e5m2_bf16) i) (bcastRow _ _ i))

end Cert.DwQkvIdeal.Pay

namespace Cert.DwQkvRefIdeal.Pay
open Cert.DwQkvRefIdeal Cert.DwQkvRefIdeal.Gen Cert.Quant

/-- The reference's scale of each column. -/
theorem pay2 (v : Vec Ideal S2048x6144 .f32) (i : S1x6144.Idx) :
    k0_pay2 (F := Ideal) v i = scale 0x47600000#32 (amax fun k => v (ix2 k (i 1))) := by
  unfold k0_pay2 k0_pay1
  rw [shapeCast_self]
  exact (scale_apply 0x47600000#32 _ i).trans (congrArg (scale _) ((castRow _ _ i).trans (congrFun (colmax v _ _ _) _)))

/-- The reference's code of each element. -/
theorem pay3 (v : Vec Ideal S2048x6144 .f32) (i : S2048x6144.Idx) :
    k0_pay3 (F := Ideal) v i = code 0xC7600000#32 0x47600000#32 (v i) (scale 0x47600000#32 (amax fun k => v (ix2 k (i 1)))) := by
  unfold k0_pay3 k0_pay1
  rw [shapeCast_self]
  exact (clip_apply 0xC7600000#32 0x47600000#32 _ _ i).trans (congrArg (code _ _ _) ((bcastRow _ _ i).trans (pay2 v (ix2 0 (i 1)))))

/-- The product over the tokens, at an index. -/
theorem dot (x : FVec Ideal S2048x2048 .bf16) (c : FVec Ideal S2048x6144 .bf16) (i : S2048x6144.Idx) :
    matmul (F := Ideal) (φ₁ := .bf16) (φ₂ := .bf16) dot_S2048x2048_S2048x6144_S2048x6144_0_0_1_1_n_n none x c (constant S2048x6144 .f32 0x00000000#32) i
      = dotE (fun k : Fin 2048 => x (ix2 k (i 0))) fun k => c (ix2 k (i 1)) := by
  unfold dotE
  simp only [pointwise]
  simp (decide := true)

/-- The input times its tokens' scales. -/
theorem wide (x : Vec Ideal S2048x2048 .fp8e4m3) (s : Vec Ideal S2048x1 .f32) (i : S2048x2048.Idx) :
    mulf (F := Ideal) (φ := .bf16) (extf .bf16 (x : FVec Ideal S2048x2048 .fp8e4m3) bitsLt_fp8e4m3_bf16)
        (broadcastTo S2048x2048 (truncf .bf16 (shapeCast S2048x1 s shapeCasts_S2048x1_S2048x1 : FVec Ideal S2048x1 .f32) bitsLt_bf16_f32) broadcasts_S2048x1_S2048x2048) i
      = mulE (x i) (s (ix2 (i 0) 0)) := by
  rw [shapeCast_self]
  exact (mulf_at _ _ i).trans (congrArg (mulE _) (bcastCol _ _ i))

/-- The reference's weight gradient. -/
theorem pay4 (v : Vec Ideal S2048x6144 .f32) (x : Vec Ideal S2048x2048 .fp8e4m3) (s : Vec Ideal S2048x1 .f32) (i : S2048x6144.Idx) :
    k0_pay4 (F := Ideal) v x s i
      = mulE (dotE (fun k : Fin 2048 => mulE (x (ix2 k (i 0))) (s (ix2 k 0))) fun k => k0_pay3 (F := Ideal) v (ix2 k (i 1)))
          (k0_pay2 (F := Ideal) v (ix2 0 (i 1))) := by
  unfold k0_pay4
  refine (mulf_at _ _ i).trans (congrArg₂ mulE ((dot _ (extf .bf16 (k0_pay3 (F := Ideal) v) bitsLt_fp8e5m2_bf16) i).trans ?_) (bcastRow _ _ i))
  exact congrArg₂ dotE (funext fun k => wide x s (ix2 k (i 0))) rfl

end Cert.DwQkvRefIdeal.Pay

end
-- ==== Proof.DwQkvRun.lean ====
/- What each grid point of the weight gradient's call writes back, per case, and the run with each result array named. -/
module

public import proofs.«01_k».proof.Proof.Gen.DwQkvIdeal.Frame
public import Idealize.ShloMosaic.Lib.Pipeline.Value

@[expose] public section

noncomputable section

namespace Cert.DwQkvIdeal.Run

open Cert.DwQkvIdeal Cert.DwQkvIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- What point `t` writes back of result window 3: what its body left there, read through the block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- At the first point, by the term of its stores. -/
theorem flushed3_A (c : Dev nD) (t : Fin cfg0.N) (h0 : t.val % 24 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)) := by
  simp only [flushed3, outsAt0_A m c t h0]

/-- At a later point, over the scratch of the point before. -/
theorem flushed3_B (c : Dev nD) (t : Fin cfg0.N) (h0 : ¬t.val % 24 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2) := by
  simp only [flushed3, outsAt0_B m c t h0]

/-- What point `t` writes back of result window 4: what its body left there, read through the block. -/
theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

/-- At the first point, by the term of its stores. -/
theorem flushed4_A (c : Dev nD) (t : Fin cfg0.N) (h0 : t.val % 24 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)) := by
  simp only [flushed4, outsAt0_A m c t h0]

/-- At a later point, over the scratch of the point before. -/
theorem flushed4_B (c : Dev nD) (t : Fin cfg0.N) (h0 : ¬t.val % 24 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2) := by
  simp only [flushed4, outsAt0_B m c t h0]

/-- What point `t` writes back of result window 5: what its body left there, read through the block. -/
theorem flushed5 (c : Dev nD) (t : Fin cfg0.N) :
    (dats m 0 c).flushed 5 t = (cfg0.win 5).cut (grid0.coords t) ((outsAt0 m c t.val t.isLt).2.2.1) := by
  show (cfg0.win 5).cut (grid0.coords t) ((dats m 0 c).after 5 t) = _
  rw [after0_5]

/-- At the first point, by the term of its stores. -/
theorem flushed5_A (c : Dev nD) (t : Fin cfg0.N) (h0 : t.val % 24 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)) := by
  simp only [flushed5, outsAt0_A m c t h0]

/-- At a later point, over the scratch of the point before. -/
theorem flushed5_B (c : Dev nD) (t : Fin cfg0.N) (h0 : ¬t.val % 24 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2) := by
  simp only [flushed5, outsAt0_B m c t h0]

/-- The run: each result array named, the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      (h c).1 4,
      (h c).1 5,
      ((h c).1 2).trans (((dats m 0 c).arrAt_in 2 rfl _).trans ((A_eq m c 2).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.DwQkvIdeal.Run

end
-- ==== Proof.DwQkvBlock.lean ====
/- What one grid point of the weight gradient's call leaves in its buffers: the codes and the scales of its 256 columns, the
   product with the transposed input, and, from the first point on, the transposed input itself in the scratch. -/
module

public import proofs.«01_k».proof.Proof.DwQkvPay
public import proofs.«01_k».proof.Proof.DwQkvRun
public import Idealize.ShloMosaic.Lib.Pipeline.ValueKit

@[expose] public section

set_option maxRecDepth 16384

noncomputable section

open Idealize.ShloMosaic Idealize.ShloMosaic.TcCoe Idealize.SL.Sem

namespace Cert.DwQkvIdeal.Block
open Cert.DwQkvIdeal Cert.DwQkvIdeal.Gen Cert.Quant

theorem hz : (![0, 0] : Fin 2 → Nat) = fun _ => 0 := funext fun a => by fin_cases a <;> rfl

/-- The input times its tokens' scales, transposed. -/
def xt (s : Vec Ideal S2048x1 .f32) (x : Vec Ideal S2048x2048 .fp8e4m3) : Vec Ideal S2048x2048 .bf16 :=
  fun y => mulE (x (ix2 (y 1) (y 0))) (s (ix2 (y 1) 0))

/-- A slab of 256 tokens, as the body stores it, is the transposed input at its place. -/
theorem slab (off : Nat) (s : Vec Ideal S2048x1 .f32) (x : Vec Ideal S2048x2048 .fp8e4m3) (hs : ∀ a, (![off, 0] : Fin 2 → Nat) a + (![256, 1] : Fin 2 → Nat) a ≤ S2048x1.size a)
    (hx : ∀ a, (![off, 0] : Fin 2 → Nat) a + (![256, 2048] : Fin 2 → Nat) a ≤ S2048x2048.size a) (j : S2048x256.Idx) (y : S2048x2048.Idx)
    (h0 : (y 0).val = (j 0).val) (h1 : (y 1).val = off + (j 1).val) :
    mulE (View.ld x (Rect.unit ![off, 0] ![256, 2048] hx) (ix2 (j 1) (j 0))) (View.ld s (Rect.unit ![off, 0] ![256, 1] hs) (ix2 (j 1) 0)) = xt s x y := by
  refine congrArg₂ mulE (congrArg x (funext fun a => Fin.ext ?_)) (congrArg s (funext fun a => Fin.ext ?_))
  · match a with
    | ⟨0, _⟩ => show off + 1 * (j 1).val = (y 1).val; omega
    | ⟨1, _⟩ => show 0 + 1 * (j 0).val = (y 0).val; omega
  · match a with
    | ⟨0, _⟩ => show off + 1 * (j 1).val = (y 1).val; omega
    | ⟨1, _⟩ => rfl

/-- The eight stores of the first point, newest first, hold together the transposed input. -/
theorem canon_stores (s : Vec Ideal S2048x1 .f32) (x : Vec Ideal S2048x2048 .fp8e4m3) :
    View.canon (s := S2048x2048) (e := .bf16) (Val := Elt Ideal)
      [⟨Rect.unit ![0, 1792] ![2048, 256] inb_S2048x2048_S2048x256_0_1792,
          k0_pay2 (View.ld s (Rect.unit ![1792, 0] ![256, 1] inb_S2048x1_S256x1_1792_0))
            (View.ld x (Rect.unit ![1792, 0] ![256, 2048] inb_S2048x2048_S256x2048_1792_0))⟩,
        ⟨Rect.unit ![0, 1536] ![2048, 256] inb_S2048x2048_S2048x256_0_1536,
          k0_pay1 (View.ld s (Rect.unit ![1536, 0] ![256, 1] inb_S2048x1_S256x1_1536_0))
            (View.ld x (Rect.unit ![1536, 0] ![256, 2048] inb_S2048x2048_S256x2048_1536_0))⟩,
        ⟨Rect.unit ![0, 1280] ![2048, 256] inb_S2048x2048_S2048x256_0_1280,
          k0_pay11 (View.ld s (Rect.unit ![1280, 0] ![256, 1] inb_S2048x1_S256x1_1280_0))
            (View.ld x (Rect.unit ![1280, 0] ![256, 2048] inb_S2048x2048_S256x2048_1280_0))⟩,
        ⟨Rect.unit ![0, 1024] ![2048, 256] inb_S2048x2048_S2048x256_0_1024,
          k0_pay10 (View.ld s (Rect.unit ![1024, 0] ![256, 1] inb_S2048x1_S256x1_1024_0))
            (View.ld x (Rect.unit ![1024, 0] ![256, 2048] inb_S2048x2048_S256x2048_1024_0))⟩,
        ⟨Rect.unit ![0, 768] ![2048, 256] inb_S2048x2048_S2048x256_0_768,
          k0_pay9 (View.ld s (Rect.unit ![768, 0] ![256, 1] inb_S2048x1_S256x1_768_0))
            (View.ld x (Rect.unit ![768, 0] ![256, 2048] inb_S2048x2048_S256x2048_768_0))⟩,
        ⟨Rect.unit ![0, 512] ![2048, 256] inb_S2048x2048_S2048x256_0_512,
          k0_pay8 (View.ld s (Rect.unit ![512, 0] ![256, 1] inb_S2048x1_S256x1_512_0))
            (View.ld x (Rect.unit ![512, 0] ![256, 2048] inb_S2048x2048_S256x2048_512_0))⟩,
        ⟨Rect.unit ![0, 256] ![2048, 256] inb_S2048x2048_S2048x256_0_256,
          k0_pay7 (View.ld s (Rect.unit ![256, 0] ![256, 1] inb_S2048x1_S256x1_256_0))
            (View.ld x (Rect.unit ![256, 0] ![256, 2048] inb_S2048x2048_S256x2048_256_0))⟩,
        ⟨Rect.unit ![0, 0] ![2048, 256] inb_S2048x2048_S2048x256_0_0,
          k0_pay6 (View.ld s (Rect.unit ![0, 0] ![256, 1] inb_S2048x1_S256x1_0_0))
            (View.ld x (Rect.unit ![0, 0] ![256, 2048] inb_S2048x2048_S256x2048_0_0))⟩] = xt s x := by
  funext y
  canon_tiles j h using View.cover_of_tiledBy _ ![2048, 256] (by sl_kernel_rfl) y
  case piece0 => exact (Pay.pay2 _ _ j).trans (slab 1792 s x _ _ j y h0 (by omega))
  case piece1 => exact (Pay.pay1 _ _ j).trans (slab 1536 s x _ _ j y h0 (by omega))
  case piece2 => exact (Pay.pay11 _ _ j).trans (slab 1280 s x _ _ j y h0 (by omega))
  case piece3 => exact (Pay.pay10 _ _ j).trans (slab 1024 s x _ _ j y h0 (by omega))
  case piece4 => exact (Pay.pay9 _ _ j).trans (slab 768 s x _ _ j y h0 (by omega))
  case piece5 => exact (Pay.pay8 _ _ j).trans (slab 512 s x _ _ j y h0 (by omega))
  case piece6 => exact (Pay.pay7 _ _ j).trans (slab 256 s x _ _ j y h0 (by omega))
  case piece7 => exact (Pay.pay6 _ _ j).trans (slab 0 s x _ _ j y h0 (by omega))

variable (c : Dev nD) (i : grid0.Coords) (a1 : Memref sig .tc .vmem S2048x1 .f32) (h1 : a1.IsWhole) (a2 : Memref sig .tc .vmem S2048x2048 .fp8e4m3) (h2 : a2.IsWhole) (a3 : Memref sig .tc .vmem S2048x256 .f32) (h3 : a3.IsWhole) (a4 : Memref sig .tc .vmem S2048x256 .fp8e5m2) (h4 : a4.IsWhole) (a5 : Memref sig .tc .vmem S1x256 .f32) (h5 : a5.IsWhole) (a6 : Memref sig .tc .vmem S2048x256 .f32) (h6 : a6.IsWhole) (a7 : Memref sig .tc .vmem S2048x2048 .bf16) (h7 : a7.IsWhole)
  (x0 : Vec Ideal S2048x1 .f32) (x1 : Vec Ideal S2048x2048 .fp8e4m3) (x2 : Vec Ideal S2048x256 .f32) (xs : Vec Ideal S2048x2048 .bf16)

/-- The codes the first point leaves. -/
theorem outA3 (hc : cond0_0 i) : out0_A_3 (F := Ideal) c i a1 h1 a2 h2 a3 h3 a4 h4 a5 h5 a6 h6 a7 h7 hc x0 x1 x2 = k0_pay4 x2 := by
  frame_out

/-- The scales it leaves. -/
theorem outA4 (hc : cond0_0 i) : out0_A_4 (F := Ideal) c i a1 h1 a2 h2 a3 h3 a4 h4 a5 h5 a6 h6 a7 h7 hc x0 x1 x2 = k0_pay3 x2 := by
  frame_out

/-- The codes a later point leaves. -/
theorem outB3 (hc : ¬cond0_0 i) : out0_B_3 (F := Ideal) c i a1 h1 a2 h2 a3 h3 a4 h4 a5 h5 a6 h6 a7 h7 hc x0 x1 x2 xs = k0_pay4 x2 := by
  frame_out

/-- The scales it leaves. -/
theorem outB4 (hc : ¬cond0_0 i) : out0_B_4 (F := Ideal) c i a1 h1 a2 h2 a3 h3 a4 h4 a5 h5 a6 h6 a7 h7 hc x0 x1 x2 xs = k0_pay3 x2 := by
  frame_out

/-- Its product is over the scratch it found. -/
theorem outB5 (hc : ¬cond0_0 i) : out0_B_5 (F := Ideal) c i a1 h1 a2 h2 a3 h3 a4 h4 a5 h5 a6 h6 a7 h7 hc x0 x1 x2 xs = k0_pay5 x2 xs := by
  frame_out

/-- It leaves the scratch as it found it. -/
theorem soutB (hc : ¬cond0_0 i) : sout0_B_0 (F := Ideal) c i a1 h1 a2 h2 a3 h3 a4 h4 a5 h5 a6 h6 a7 h7 hc x0 x1 x2 xs = xs := by
  unfold sout0_B_0
  rfl

/-- The first point leaves the transposed input in the scratch. -/
theorem soutA (hc : cond0_0 i) : sout0_A_0 (F := Ideal) c i a1 h1 a2 h2 a3 h3 a4 h4 a5 h5 a6 h6 a7 h7 hc x0 x1 x2 = xt x0 x1 := by
  frame_out
  exact canon_stores x0 x1

/-- Its product reads back the transposed input it stored. -/
theorem outA5 (hc : cond0_0 i) : out0_A_5 (F := Ideal) c i a1 h1 a2 h2 a3 h3 a4 h4 a5 h5 a6 h6 a7 h7 hc x0 x1 x2 = k0_pay5 x2 (xt x0 x1) := by
  frame_out
  rw [View.readCov_eq_canon', canon_stores]
  exact congrArg (k0_pay5 (F := Ideal) x2) (View.ld_unit_zero (S := S2048x2048) hz _ (xt x0 x1))

end Cert.DwQkvIdeal.Block

end
-- ==== Proof.DwQkvRefValue.lean ====
module

public import proofs.«01_k».proof.Proof.Order
public import proofs.«01_k».proof.Proof.DwQkvPay
public import proofs.«01_k».proof.Proof.Gen.DwQkvRefIdeal.Value
public import Idealize.ShloMosaic.Lib.Pipeline.ValueKit

@[expose] public section

set_option maxRecDepth 16384

noncomputable section

open Idealize.ShloMosaic Idealize.ShloMosaic.TcCoe Idealize.SL.Sem
open Cert.Quant

namespace Cert.DwQkvRefIdeal.Arrays
open Cert.DwQkvRefIdeal Cert.DwQkvRefIdeal.Gen Cert.DwQkvRefIdeal.Value

variable (m : (ℓ : Loc nD τ sig) → Buf (Elt Ideal) ℓ)

/-- The gradient with its columns in the query, key, value order. -/
def perm (v : Vec Ideal S2048x6144 .f32) : Vec Ideal S2048x6144 .f32 := fun y => v (ix2 (y 0) (src (y 1)))

/-- The tokens' scales as one column. -/
def tok (z : Vec Ideal S2x1024 .f32) : Vec Ideal S2048x1 .f32 := shapeCast S2048x1 z shapeCasts_S2x1024_S2048x1

/-- What the reference's host lines leave of the gradient. -/
theorem entry7 (c : Dev nD) : V m c main_v7 = perm (m ((c : Thread nD τ).loc main_arg0)) := by
  show StableHlo.after hostOps0 (fun b => m (c, b)) (Proc.devRef .tc main_v7) = _
  unfold hostOps0
  simp only [StableHlo.after_cons, StableHlo.after_nil]
  rw [StableHlo.reshape_result_ne (h := by decide), StableHlo.nary_result]
  funext y
  refine parts (m ((c : Thread nD τ).loc main_arg0)) _ _ _ (fun i j h => ?_) (fun i j h => ?_) (fun i j h => ?_) _ y
  · refine Eq.trans (congrFun ?_ i) (part (m ((c : Thread nD τ).loc main_arg0)) shapeCasts_S2048x6144_S2048x6x1024
      slices_S2048x6x1024_S2048x6x256_0_0_0 shapeCasts_S2048x6x256_S2048x1536 (by decide) rfl (by decide) i j h)
    after_results_steps
    rfl
  · refine Eq.trans (congrFun ?_ i) (part (m ((c : Thread nD τ).loc main_arg0)) shapeCasts_S2048x6144_S2048x6x1024
      slices_S2048x6x1024_S2048x6x256_0_0_256 shapeCasts_S2048x6x256_S2048x1536 (by decide) rfl (by decide) i j h)
    after_results_steps
    rfl
  · refine Eq.trans (congrFun ?_ i) (part (m ((c : Thread nD τ).loc main_arg0)) shapeCasts_S2048x6144_S2048x6x1024
      slices_S2048x6x1024_S2048x6x512_0_0_512 shapeCasts_S2048x6x512_S2048x3072 (by decide) rfl (by decide) i j h)
    after_results_steps
    rfl

theorem entry8 (c : Dev nD) : V m c main_v8 = tok (m ((c : Thread nD τ).loc main_arg2)) := by
  entry_read
  rfl

theorem hz : (![0, 0] : Fin 2 → Nat) = fun _ => 0 := funext fun a => by fin_cases a <;> rfl

/-- The one point reads and writes whole arrays. -/
theorem idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem emb0 (t : Fin cfg0.N) (j : S2048x1.Idx) : ((cfg0.win 0).blk t).view.emb j = j := by
  obtain ⟨a0, a1, -⟩ := idx t
  funext a; apply Fin.ext
  match a with
  | ⟨0, _⟩ => show win0_0.index t (0 : Fin 2) * 2048 + 1 * (j 0).val = (j 0).val; omega
  | ⟨1, _⟩ => show win0_0.index t (1 : Fin 2) * 1 + 1 * (j 1).val = (j 1).val; omega

theorem emb1 (t : Fin cfg0.N) (j : S2048x2048.Idx) : ((cfg0.win 1).blk t).view.emb j = j := by
  obtain ⟨-, -, a0, a1, -⟩ := idx t
  funext a; apply Fin.ext
  match a with
  | ⟨0, _⟩ => show win0_1.index t (0 : Fin 2) * 2048 + 1 * (j 0).val = (j 0).val; omega
  | ⟨1, _⟩ => show win0_1.index t (1 : Fin 2) * 2048 + 1 * (j 1).val = (j 1).val; omega

theorem emb2 (t : Fin cfg0.N) (j : S2048x6144.Idx) : ((cfg0.win 2).blk t).view.emb j = j := by
  obtain ⟨-, -, -, -, a0, a1, -⟩ := idx t
  funext a; apply Fin.ext
  match a with
  | ⟨0, _⟩ => show win0_2.index t (0 : Fin 2) * 2048 + 1 * (j 0).val = (j 0).val; omega
  | ⟨1, _⟩ => show win0_2.index t (1 : Fin 2) * 6144 + 1 * (j 1).val = (j 1).val; omega

theorem emb3 (t : Fin cfg0.N) (j : S2048x6144.Idx) : ((cfg0.win 3).blk t).view.emb j = j := by
  obtain ⟨-, -, -, -, -, -, a0, a1, -⟩ := idx t
  funext a; apply Fin.ext
  match a with
  | ⟨0, _⟩ => show win0_3.index t (0 : Fin 2) * 2048 + 1 * (j 0).val = (j 0).val; omega
  | ⟨1, _⟩ => show win0_3.index t (1 : Fin 2) * 6144 + 1 * (j 1).val = (j 1).val; omega

theorem emb4 (t : Fin cfg0.N) (j : S1x6144.Idx) : ((cfg0.win 4).blk t).view.emb j = j := by
  obtain ⟨-, -, -, -, -, -, -, -, a0, a1, -⟩ := idx t
  funext a; apply Fin.ext
  match a with
  | ⟨0, _⟩ => show win0_4.index t (0 : Fin 2) * 1 + 1 * (j 0).val = (j 0).val; omega
  | ⟨1, _⟩ => show win0_4.index t (1 : Fin 2) * 6144 + 1 * (j 1).val = (j 1).val; omega

theorem emb5 (t : Fin cfg0.N) (j : S2048x6144.Idx) : ((cfg0.win 5).blk t).view.emb j = j := by
  obtain ⟨-, -, -, -, -, -, -, -, -, -, a0, a1⟩ := idx t
  funext a; apply Fin.ext
  match a with
  | ⟨0, _⟩ => show win0_5.index t (0 : Fin 2) * 2048 + 1 * (j 0).val = (j 0).val; omega
  | ⟨1, _⟩ => show win0_5.index t (1 : Fin 2) * 6144 + 1 * (j 1).val = (j 1).val; omega

theorem iblk0 (c : Dev nD) (t : Fin cfg0.N) : iblk m c 0 t = V m c main_v8 := by
  funext j
  show V m c main_v8 (((cfg0.win 0).blk t).view.emb j) = _
  rw [emb0]

theorem iblk1 (c : Dev nD) (t : Fin cfg0.N) : iblk m c 1 t = V m c main_arg1 := by
  funext j
  show V m c main_arg1 (((cfg0.win 1).blk t).view.emb j) = _
  rw [emb1]

theorem iblk2 (c : Dev nD) (t : Fin cfg0.N) : iblk m c 2 t = V m c main_v7 := by
  funext j
  show V m c main_v7 (((cfg0.win 2).blk t).view.emb j) = _
  rw [emb2]

theorem out3 (x0 : Vec Ideal S2048x1 .f32) (x1 : Vec Ideal S2048x2048 .fp8e4m3) (x2 : Vec Ideal S2048x6144 .f32) :
    out0_3 (F := Ideal) x0 x1 x2 = k0_pay3 x2 := by
  unfold out0_3
  rw [View.canon_unit_zero hz, View.ld_unit_zero (S := S2048x6144) hz _ x2]

theorem out4 (x0 : Vec Ideal S2048x1 .f32) (x1 : Vec Ideal S2048x2048 .fp8e4m3) (x2 : Vec Ideal S2048x6144 .f32) :
    out0_4 (F := Ideal) x0 x1 x2 = k0_pay2 x2 := by
  unfold out0_4
  rw [View.canon_unit_zero hz, View.ld_unit_zero (S := S2048x6144) hz _ x2]

theorem out5 (x0 : Vec Ideal S2048x1 .f32) (x1 : Vec Ideal S2048x2048 .fp8e4m3) (x2 : Vec Ideal S2048x6144 .f32) :
    out0_5 (F := Ideal) x0 x1 x2 = k0_pay4 x2 x1 x0 := by
  unfold out0_5
  rw [View.canon_unit_zero hz, View.ld_unit_zero (S := S2048x1) hz _ x0, View.ld_unit_zero (S := S2048x2048) hz _ x1, View.ld_unit_zero (S := S2048x6144) hz _ x2]

/-- A block that is the whole array. -/
theorem cut3 (t : Fin cfg0.N) (G : Vec Ideal S2048x6144 .fp8e5m2) :
    (cfg0.win 3).cut (grid0.coords t) G = ((cfg0.win 3).blk t).view.read (Elt Ideal) G := by
  funext j
  show G j = G (((cfg0.win 3).blk t).view.emb j)
  exact congrArg G (emb3 t j).symm

theorem cut4 (t : Fin cfg0.N) (G : Vec Ideal S1x6144 .f32) :
    (cfg0.win 4).cut (grid0.coords t) G = ((cfg0.win 4).blk t).view.read (Elt Ideal) G := by
  funext j
  show G j = G (((cfg0.win 4).blk t).view.emb j)
  exact congrArg G (emb4 t j).symm

theorem cut5 (t : Fin cfg0.N) (G : Vec Ideal S2048x6144 .f32) :
    (cfg0.win 5).cut (grid0.coords t) G = ((cfg0.win 5).blk t).view.read (Elt Ideal) G := by
  funext j
  show G j = G (((cfg0.win 5).blk t).view.emb j)
  exact congrArg G (emb5 t j).symm

theorem covered3 (i : S2048x6144.Idx) : ∃ t : Fin cfg0.N, (cfg0.win 3).flush t = true ∧ i ∈ ((cfg0.win 3).blk t).view.set := by
  refine ⟨t0_0, flush0_3 _, ?_⟩
  have h := ((cfg0.win 3).blk t0_0).view.emb_mem_set i
  rw [emb3] at h
  exact h

theorem covered4 (i : S1x6144.Idx) : ∃ t : Fin cfg0.N, (cfg0.win 4).flush t = true ∧ i ∈ ((cfg0.win 4).blk t).view.set := by
  refine ⟨t0_0, flush0_4 _, ?_⟩
  have h := ((cfg0.win 4).blk t0_0).view.emb_mem_set i
  rw [emb4] at h
  exact h

theorem covered5 (i : S2048x6144.Idx) : ∃ t : Fin cfg0.N, (cfg0.win 5).flush t = true ∧ i ∈ ((cfg0.win 5).blk t).view.set := by
  refine ⟨t0_0, flush0_5 _, ?_⟩
  have h := ((cfg0.win 5).blk t0_0).view.emb_mem_set i
  rw [emb5] at h
  exact h

/-- The reference's weight gradient over the arrays of its arguments. -/
def dw (v : Vec Ideal S2048x6144 .f32) (x : Vec Ideal S2048x2048 .fp8e4m3) (z : Vec Ideal S2x1024 .f32) : Vec Ideal S2048x6144 .f32 :=
  k0_pay4 (F := Ideal) (perm v) x (tok z)

theorem flushed3_eq (c : Dev nD) (t : Fin cfg0.N) : (dats m 0 c).flushed 3 t = ((cfg0.win 3).blk t).view.read (Elt Ideal)
    (k0_pay3 (F := Ideal) (perm (m ((c : Thread nD τ).loc main_arg0)))) := by
  rw [flushed3, out3, iblk2, entry7]
  exact cut3 t _

theorem flushed4_eq (c : Dev nD) (t : Fin cfg0.N) : (dats m 0 c).flushed 4 t = ((cfg0.win 4).blk t).view.read (Elt Ideal)
    (k0_pay2 (F := Ideal) (perm (m ((c : Thread nD τ).loc main_arg0)))) := by
  rw [flushed4, out4, iblk2, entry7]
  exact cut4 t _

theorem flushed5_eq (c : Dev nD) (t : Fin cfg0.N) : (dats m 0 c).flushed 5 t = ((cfg0.win 5).blk t).view.read (Elt Ideal)
    (dw (m ((c : Thread nD τ).loc main_arg0)) (m ((c : Thread nD τ).loc main_arg1)) (m ((c : Thread nD τ).loc main_arg2))) := by
  rw [flushed5, out5, iblk0, iblk1, iblk2, entry7, entry8, V_main_arg1]
  exact cut5 t _

/-- The reference's run: its three results as functions of its arguments, and these unchanged. -/
theorem run (ρ : Dev nD → PrngReg) : θ_run defs (onTc (τ := τ) (main (F := Ideal))) ⟨m, fun _ => 0, ρ⟩ fun r => ∀ c : Dev nD,
      r.2.mem ((c : Thread nD τ).loc main_v9_0) = k0_pay3 (F := Ideal) (perm (m ((c : Thread nD τ).loc main_arg0)))
      ∧ r.2.mem ((c : Thread nD τ).loc main_v9_1) = k0_pay2 (F := Ideal) (perm (m ((c : Thread nD τ).loc main_arg0)))
      ∧ r.2.mem ((c : Thread nD τ).loc main_v9_2)
          = dw (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans ((dats m 0 c).arrAt_eq_of_cover 3 _ (fun t _ => flushed3_eq m c t) covered3),
        (h c).2.1.trans ((dats m 0 c).arrAt_eq_of_cover 4 _ (fun t _ => flushed4_eq m c t) covered4),
        (h c).2.2.1.trans ((dats m 0 c).arrAt_eq_of_cover 5 _ (fun t _ => flushed5_eq m c t) covered5), (h c).2.2.2⟩)
    (run_blocks m ρ)

end Cert.DwQkvRefIdeal.Arrays

end
-- ==== Proof.DwQkvValue.lean ====
module

public import proofs.«01_k».proof.Defs
public import proofs.«01_k».proof.Proof.DwQkvBlock
public import proofs.«01_k».proof.Proof.DwQkvRefValue

@[expose] public section

set_option maxRecDepth 16384

noncomputable section

open Idealize.ShloMosaic Idealize.ShloMosaic.TcCoe Idealize.SL.Sem
open Cert.Quant

namespace Cert.DwQkvIdeal.Arrays
open Cert.DwQkvIdeal Cert.DwQkvIdeal.Gen Cert.DwQkvIdeal.Run
open Cert.DwQkvRefIdeal.Arrays (perm tok dw)

variable (m : (ℓ : Loc nD τ sig) → Buf (Elt Ideal) ℓ)

/-- Point `t` writes the block `t` along the columns and reads the block that this one is in the head-by-head order; the input
    and its scales it reads whole. -/
theorem idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) * 256 = srcN (t.val * 256)
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- A block of 256 columns stays together. -/
theorem srcN_block (t j : Nat) (ht : t < 24) (hj : j < 256) : srcN (t * 256 + j) = srcN (t * 256) + j := by
  unfold srcN
  split_ifs <;> omega

/-- Column `j` of block `t`. -/
def col (t : Fin cfg0.N) (j : Fin 256) : Fin 6144 := ⟨t.val * 256 + j.val, by have : t.val < 24 := t.isLt; omega⟩

theorem emb0 (t : Fin cfg0.N) (j : S2048x1.Idx) : ((cfg0.win 0).blk t).view.emb j = j := by
  obtain ⟨a0, a1, -⟩ := idx t
  funext a; apply Fin.ext
  match a with
  | ⟨0, _⟩ => show win0_0.index t (0 : Fin 2) * 2048 + 1 * (j 0).val = (j 0).val; omega
  | ⟨1, _⟩ => show win0_0.index t (1 : Fin 2) * 1 + 1 * (j 1).val = (j 1).val; omega

theorem emb1 (t : Fin cfg0.N) (j : S2048x2048.Idx) : ((cfg0.win 1).blk t).view.emb j = j := by
  obtain ⟨-, -, a0, a1, -⟩ := idx t
  funext a; apply Fin.ext
  match a with
  | ⟨0, _⟩ => show win0_1.index t (0 : Fin 2) * 2048 + 1 * (j 0).val = (j 0).val; omega
  | ⟨1, _⟩ => show win0_1.index t (1 : Fin 2) * 2048 + 1 * (j 1).val = (j 1).val; omega

theorem emb2 (t : Fin cfg0.N) (j : S2048x256.Idx) : ((cfg0.win 2).blk t).view.emb j = ix2 (j 0) (src (col t (j 1))) := by
  obtain ⟨-, -, -, -, a0, a1, -⟩ := idx t
  funext a; apply Fin.ext
  match a with
  | ⟨0, _⟩ => show win0_2.index t (0 : Fin 2) * 2048 + 1 * (j 0).val = (j 0).val; omega
  | ⟨1, _⟩ => show win0_2.index t (1 : Fin 2) * 256 + 1 * (j 1).val = srcN (t.val * 256 + (j 1).val); rw [srcN_block t.val (j 1).val t.isLt (j 1).isLt]; omega

theorem emb3 (t : Fin cfg0.N) (j : S2048x256.Idx) : ((cfg0.win 3).blk t).view.emb j = ix2 (j 0) (col t (j 1)) := by
  obtain ⟨-, -, -, -, -, -, a0, a1, -⟩ := idx t
  funext a; apply Fin.ext
  match a with
  | ⟨0, _⟩ => show win0_3.index t (0 : Fin 2) * 2048 + 1 * (j 0).val = (j 0).val; omega
  | ⟨1, _⟩ => show win0_3.index t (1 : Fin 2) * 256 + 1 * (j 1).val = t.val * 256 + (j 1).val; omega

theorem emb4 (t : Fin cfg0.N) (j : S1x256.Idx) : ((cfg0.win 4).blk t).view.emb j = ix2 (j 0) (col t (j 1)) := by
  obtain ⟨-, -, -, -, -, -, -, -, a0, a1, -⟩ := idx t
  funext a; apply Fin.ext
  match a with
  | ⟨0, _⟩ => show win0_4.index t (0 : Fin 2) * 1 + 1 * (j 0).val = (j 0).val; omega
  | ⟨1, _⟩ => show win0_4.index t (1 : Fin 2) * 256 + 1 * (j 1).val = t.val * 256 + (j 1).val; omega

theorem emb5 (t : Fin cfg0.N) (j : S2048x256.Idx) : ((cfg0.win 5).blk t).view.emb j = ix2 (j 0) (col t (j 1)) := by
  obtain ⟨-, -, -, -, -, -, -, -, -, -, a0, a1⟩ := idx t
  funext a; apply Fin.ext
  match a with
  | ⟨0, _⟩ => show win0_5.index t (0 : Fin 2) * 2048 + 1 * (j 0).val = (j 0).val; omega
  | ⟨1, _⟩ => show win0_5.index t (1 : Fin 2) * 256 + 1 * (j 1).val = t.val * 256 + (j 1).val; omega

/-- The tokens' scales, handed over as one column. -/
theorem entry0 (c : Dev nD) : V m c main_v0 = tok (m ((c : Thread nD τ).loc main_arg2)) := by
  entry_read
  rfl

theorem iblk0 (c : Dev nD) (t : Fin cfg0.N) : iblk m c 0 t = tok (m ((c : Thread nD τ).loc main_arg2)) := by
  rw [← entry0]
  funext j
  show V m c main_v0 (((cfg0.win 0).blk t).view.emb j) = _
  rw [emb0]

theorem iblk1 (c : Dev nD) (t : Fin cfg0.N) : iblk m c 1 t = V m c main_arg1 := by
  funext j
  show V m c main_arg1 (((cfg0.win 1).blk t).view.emb j) = _
  rw [emb1]

/-- The block of the gradient at point `t`: the columns of block `t` in the query, key, value order. -/
theorem iblk2 (c : Dev nD) (t : Fin cfg0.N) (j : S2048x256.Idx) : iblk m c 2 t j = perm (V m c main_arg0) (ix2 (j 0) (col t (j 1))) := by
  show V m c main_arg0 (((cfg0.win 2).blk t).view.emb j) = _
  exact congrArg (V m c main_arg0) (emb2 t j)

/-- What point `t` leaves in the scratch. -/
def scr (c : Dev nD) (t : Fin cfg0.N) : Vec Ideal S2048x2048 .bf16 := (outsAt0 m c t.val t.isLt).2.2.2

theorem scr_A (c : Dev nD) (t : Fin cfg0.N) (h0 : t.val % 24 = 0) :
    scr m c t = Block.xt (tok (m ((c : Thread nD τ).loc main_arg2))) (V m c main_arg1) := by
  unfold scr
  rw [outsAt0_A m c t h0]
  dsimp only
  rw [Block.soutA, iblk0, iblk1]

theorem scr_B (c : Dev nD) (t : Fin cfg0.N) (h0 : ¬t.val % 24 = 0) :
    scr m c t = (outsAt0 m c (t.val - 1) (Nat.lt_of_le_of_lt (Nat.sub_le _ _) t.isLt)).2.2.2 := by
  unfold scr
  rw [outsAt0_B m c t h0]
  dsimp only
  rw [Block.soutB]

/-- The scratch holds the transposed input from the first point on. -/
theorem scr_eq (c : Dev nD) (n : Nat) : ∀ t : Fin cfg0.N, t.val = n → scr m c t
    = Block.xt (tok (m ((c : Thread nD τ).loc main_arg2))) (V m c main_arg1) := by
  induction n with
  | zero => exact fun t h => scr_A m c t (by omega)
  | succ k ih =>
    intro t h
    have h24 : t.val < 24 := t.isLt
    exact (scr_B m c t (by omega)).trans (ih ⟨t.val - 1, Nat.lt_of_le_of_lt (Nat.sub_le _ _) t.isLt⟩ (by show t.val - 1 = k; omega))

theorem scratch (c : Dev nD) (n : Nat) (hn : n < cfg0.N) : (outsAt0 m c n hn).2.2.2
    = Block.xt (tok (m ((c : Thread nD τ).loc main_arg2))) (V m c main_arg1) := scr_eq m c n ⟨n, hn⟩ rfl

/-- A column of the block is the array's column. -/
theorem colOf (c : Dev nD) (t : Fin cfg0.N) (j : Fin 256) :
    (fun k : Fin 2048 => iblk m c 2 t (ix2 k j)) = fun k => perm (V m c main_arg0) (ix2 k (col t j)) :=
  funext fun k => iblk2 m c t (ix2 k j)

/-- The codes of block `t` are the reference's codes there. -/
theorem at3 (c : Dev nD) (t : Fin cfg0.N) (j : S2048x256.Idx) : k0_pay4 (F := Ideal) (iblk m c 2 t) j
    = Cert.DwQkvRefIdeal.Gen.k0_pay3 (F := Ideal) (perm (V m c main_arg0)) (ix2 (j 0) (col t (j 1))) :=
  (Pay.pay4 (iblk m c 2 t) j).trans (Eq.trans
    (congrArg₂ (fun x f => code 0xC7600000#32 0x47600000#32 x (scale 0x47600000#32 (amax (n := 2048) f))) (iblk2 m c t j) (colOf m c t (j 1)))
    (Cert.DwQkvRefIdeal.Pay.pay3 (perm (V m c main_arg0)) (ix2 (j 0) (col t (j 1)))).symm)

/-- The scales of block `t` are the reference's scales there. -/
theorem at4 (c : Dev nD) (t : Fin cfg0.N) (j : S1x256.Idx) : k0_pay3 (F := Ideal) (iblk m c 2 t) j
    = Cert.DwQkvRefIdeal.Gen.k0_pay2 (F := Ideal) (perm (V m c main_arg0)) (ix2 (j 0) (col t (j 1))) :=
  (Pay.pay3 (iblk m c 2 t) j).trans (Eq.trans
    (congrArg (fun f => scale 0x47600000#32 (amax (n := 2048) f)) (colOf m c t (j 1)))
    (Cert.DwQkvRefIdeal.Pay.pay2 (perm (V m c main_arg0)) (ix2 (j 0) (col t (j 1)))).symm)

/-- The gradient's columns of block `t` are the reference's. -/
theorem at5 (c : Dev nD) (t : Fin cfg0.N) (x : Vec Ideal S2048x2048 .fp8e4m3) (z : Vec Ideal S2x1024 .f32) (j : S2048x256.Idx) :
    k0_pay5 (F := Ideal) (iblk m c 2 t) (Block.xt (tok z) x) j = dw (V m c main_arg0) x z (ix2 (j 0) (col t (j 1))) := by
  unfold dw
  refine (Pay.pay5 (iblk m c 2 t) _ j).trans (Eq.trans ?_ (Cert.DwQkvRefIdeal.Pay.pay4 (perm (V m c main_arg0)) x (tok z) (ix2 (j 0) (col t (j 1)))).symm)
  exact congrArg₂ mulE (congrArg₂ dotE rfl (funext fun k => at3 m c t (ix2 k (j 1)))) (at4 m c t (ix2 0 (j 1)))

/-- A block that reads `G` at its place is what the window's view reads of `G`. -/
theorem cut3 (t : Fin cfg0.N) (X : Vec Ideal S2048x256 .fp8e5m2) (G : Vec Ideal S2048x6144 .fp8e5m2)
    (h : ∀ j : S2048x256.Idx, X j = G (ix2 (j 0) (col t (j 1)))) :
    (cfg0.win 3).cut (grid0.coords t) X = ((cfg0.win 3).blk t).view.read (Elt Ideal) G := by
  funext j
  show X j = G (((cfg0.win 3).blk t).view.emb j)
  exact (h j).trans (congrArg G (emb3 t j).symm)

theorem cut4 (t : Fin cfg0.N) (X : Vec Ideal S1x256 .f32) (G : Vec Ideal S1x6144 .f32)
    (h : ∀ j : S1x256.Idx, X j = G (ix2 (j 0) (col t (j 1)))) :
    (cfg0.win 4).cut (grid0.coords t) X = ((cfg0.win 4).blk t).view.read (Elt Ideal) G := by
  funext j
  show X j = G (((cfg0.win 4).blk t).view.emb j)
  exact (h j).trans (congrArg G (emb4 t j).symm)

theorem cut5 (t : Fin cfg0.N) (X : Vec Ideal S2048x256 .f32) (G : Vec Ideal S2048x6144 .f32)
    (h : ∀ j : S2048x256.Idx, X j = G (ix2 (j 0) (col t (j 1)))) :
    (cfg0.win 5).cut (grid0.coords t) X = ((cfg0.win 5).blk t).view.read (Elt Ideal) G := by
  funext j
  show X j = G (((cfg0.win 5).blk t).view.emb j)
  exact (h j).trans (congrArg G (emb5 t j).symm)

/-- What point `t` writes of the codes is its block of the reference's codes. -/
theorem flushed3_eq (c : Dev nD) (t : Fin cfg0.N) : (dats m 0 c).flushed 3 t = ((cfg0.win 3).blk t).view.read (Elt Ideal)
    (Cert.DwQkvRefIdeal.Gen.k0_pay3 (F := Ideal) (perm (V m c main_arg0))) := by
  by_cases h0 : t.val % 24 = 0
  · rw [flushed3_A m c t h0, Block.outA3]
    exact cut3 t _ _ (at3 m c t)
  · rw [flushed3_B m c t h0, Block.outB3]
    exact cut3 t _ _ (at3 m c t)

/-- What point `t` writes of the scales is its block of the reference's scales. -/
theorem flushed4_eq (c : Dev nD) (t : Fin cfg0.N) : (dats m 0 c).flushed 4 t = ((cfg0.win 4).blk t).view.read (Elt Ideal)
    (Cert.DwQkvRefIdeal.Gen.k0_pay2 (F := Ideal) (perm (V m c main_arg0))) := by
  by_cases h0 : t.val % 24 = 0
  · rw [flushed4_A m c t h0, Block.outA4]
    exact cut4 t _ _ (at4 m c t)
  · rw [flushed4_B m c t h0, Block.outB4]
    exact cut4 t _ _ (at4 m c t)

/-- What point `t` writes of the weight gradient is its block of the reference's. -/
theorem flushed5_eq (c : Dev nD) (t : Fin cfg0.N) : (dats m 0 c).flushed 5 t = ((cfg0.win 5).blk t).view.read (Elt Ideal)
    (dw (V m c main_arg0) (V m c main_arg1) (m ((c : Thread nD τ).loc main_arg2))) := by
  by_cases h0 : t.val % 24 = 0
  · rw [flushed5_A m c t h0, Block.outA5, iblk0, iblk1]
    exact cut5 t _ _ (at5 m c t (V m c main_arg1) (m ((c : Thread nD τ).loc main_arg2)))
  · rw [flushed5_B m c t h0, Block.outB5, scratch]
    exact cut5 t _ _ (at5 m c t (V m c main_arg1) (m ((c : Thread nD τ).loc main_arg2)))

theorem covered3 (i : S2048x6144.Idx) : ∃ t : Fin cfg0.N, (cfg0.win 3).flush t = true ∧ i ∈ ((cfg0.win 3).blk t).view.set := by
  have hi : (i 1).val < 6144 := (i 1).isLt
  refine ⟨(⟨(i 1).val / 256, by show _ < 24; omega⟩ : Fin cfg0.N), flush0_3 _, ?_⟩
  have h := ((cfg0.win 3).blk (⟨(i 1).val / 256, by show _ < 24; omega⟩ : Fin cfg0.N)).view.emb_mem_set
    (ix2 (i 0) (⟨(i 1).val % 256, by omega⟩ : Fin 256))
  rw [emb3] at h
  refine (congrArg (· ∈ _) (funext fun a => ?_)).mpr h
  match a with
  | ⟨0, _⟩ => rfl
  | ⟨1, _⟩ => apply Fin.ext; show (i 1).val = (i 1).val / 256 * 256 + (i 1).val % 256; omega

theorem covered4 (i : S1x6144.Idx) : ∃ t : Fin cfg0.N, (cfg0.win 4).flush t = true ∧ i ∈ ((cfg0.win 4).blk t).view.set := by
  have hi : (i 1).val < 6144 := (i 1).isLt
  refine ⟨(⟨(i 1).val / 256, by show _ < 24; omega⟩ : Fin cfg0.N), flush0_4 _, ?_⟩
  have h := ((cfg0.win 4).blk (⟨(i 1).val / 256, by show _ < 24; omega⟩ : Fin cfg0.N)).view.emb_mem_set
    (ix2 (i 0) (⟨(i 1).val % 256, by omega⟩ : Fin 256))
  rw [emb4] at h
  refine (congrArg (· ∈ _) (funext fun a => ?_)).mpr h
  match a with
  | ⟨0, _⟩ => rfl
  | ⟨1, _⟩ => apply Fin.ext; show (i 1).val = (i 1).val / 256 * 256 + (i 1).val % 256; omega

theorem covered5 (i : S2048x6144.Idx) : ∃ t : Fin cfg0.N, (cfg0.win 5).flush t = true ∧ i ∈ ((cfg0.win 5).blk t).view.set := by
  have hi : (i 1).val < 6144 := (i 1).isLt
  refine ⟨(⟨(i 1).val / 256, by show _ < 24; omega⟩ : Fin cfg0.N), flush0_5 _, ?_⟩
  have h := ((cfg0.win 5).blk (⟨(i 1).val / 256, by show _ < 24; omega⟩ : Fin cfg0.N)).view.emb_mem_set
    (ix2 (i 0) (⟨(i 1).val % 256, by omega⟩ : Fin 256))
  rw [emb5] at h
  refine (congrArg (· ∈ _) (funext fun a => ?_)).mpr h
  match a with
  | ⟨0, _⟩ => rfl
  | ⟨1, _⟩ => apply Fin.ext; show (i 1).val = (i 1).val / 256 * 256 + (i 1).val % 256; omega

/-- The codes after the run, as the reference's function of the same arguments. -/
theorem end3 (c : Dev nD) : (dats m 0 c).arrAt 3 cfg0.N
    = Cert.DwQkvRefIdeal.Gen.k0_pay3 (F := Ideal) (perm (m ((c : Thread nD τ).loc main_arg0))) :=
  ((dats m 0 c).arrAt_eq_of_cover 3 _ (fun t _ => flushed3_eq m c t) covered3).trans (by rw [V_main_arg0])

/-- The scales after the run, as the reference's function of the same arguments. -/
theorem end4 (c : Dev nD) : (dats m 0 c).arrAt 4 cfg0.N
    = Cert.DwQkvRefIdeal.Gen.k0_pay2 (F := Ideal) (perm (m ((c : Thread nD τ).loc main_arg0))) :=
  ((dats m 0 c).arrAt_eq_of_cover 4 _ (fun t _ => flushed4_eq m c t) covered4).trans (by rw [V_main_arg0])

/-- The weight gradient after the run, as the reference's function of the same arguments. -/
theorem end5 (c : Dev nD) : (dats m 0 c).arrAt 5 cfg0.N
    = dw (m ((c : Thread nD τ).loc main_arg0)) (m ((c : Thread nD τ).loc main_arg1)) (m ((c : Thread nD τ).loc main_arg2)) :=
  ((dats m 0 c).arrAt_eq_of_cover 5 _ (fun t _ => flushed5_eq m c t) covered5).trans (by rw [V_main_arg0, V_main_arg1])

/-- The kernel's run: its three results are the reference's functions of its arguments, and these are unchanged. -/
theorem ends (ρ : Dev nD → PrngReg) : θ_run defs (onTc (τ := τ) (main (F := Ideal))) ⟨m, fun _ => 0, ρ⟩ fun r => ∀ c : Dev nD,
      r.2.mem ((c : Thread nD τ).loc main_v1_0) = Cert.DwQkvRefIdeal.Gen.k0_pay3 (F := Ideal) (perm (m ((c : Thread nD τ).loc main_arg0)))
      ∧ r.2.mem ((c : Thread nD τ).loc main_v1_1) = Cert.DwQkvRefIdeal.Gen.k0_pay2 (F := Ideal) (perm (m ((c : Thread nD τ).loc main_arg0)))
      ∧ r.2.mem ((c : Thread nD τ).loc main_v1_2)
          = dw (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (end3 m c), (h c).2.1.trans (end4 m c), (h c).2.2.1.trans (end5 m c), (h c).2.2.2⟩)
    (run_blocks m ρ)

end Cert.DwQkvIdeal.Arrays

namespace Cert.DwQkvClaims
open Cert.DwQkvRefIdeal.Arrays (perm tok dw)

/-- The codes of the projected row's gradient, their scales and the weight gradient: from the same arguments the kernel and the
    reference end with the same three arrays over the extended reals. -/
theorem algebraic [hK : Cert.DwQkvIdeal.Facts] [hR : Cert.DwQkvRefIdeal.Facts] : Cert.algebraic_DwQkvIdeal_DwQkvRefIdeal := by
  intro m ρ m' ρ' _ hagree
  refine ⟨fun c => Cert.DwQkvRefIdeal.Gen.k0_pay3 (F := Ideal) (perm (m ((c : Thread Cert.DwQkvIdeal.nD Cert.DwQkvIdeal.τ).loc Cert.DwQkvIdeal.main_arg0))),
    fun c => Cert.DwQkvRefIdeal.Gen.k0_pay2 (F := Ideal) (perm (m ((c : Thread Cert.DwQkvIdeal.nD Cert.DwQkvIdeal.τ).loc Cert.DwQkvIdeal.main_arg0))),
    fun c => dw (m ((c : Thread Cert.DwQkvIdeal.nD Cert.DwQkvIdeal.τ).loc Cert.DwQkvIdeal.main_arg0)) (m ((c : Thread Cert.DwQkvIdeal.nD Cert.DwQkvIdeal.τ).loc Cert.DwQkvIdeal.main_arg1))
      (m ((c : Thread Cert.DwQkvIdeal.nD Cert.DwQkvIdeal.τ).loc Cert.DwQkvIdeal.main_arg2)),
    Cert.DwQkvIdeal.Arrays.ends m ρ, ?_⟩
  refine (θ_run Cert.DwQkvRefIdeal.defs _ _).mono (fun _ h c => ?_) (Cert.DwQkvRefIdeal.Arrays.run m' ρ')
  obtain ⟨h0, h1, h2, h3⟩ := h c
  rw [(hagree c).1] at h0 h1 h2
  rw [(hagree c).2.1, (hagree c).2.2] at h2
  exact ⟨h0, h1, h2, h3⟩

end Cert.DwQkvClaims

end
-- ==== Proof.Pow2.lean ====
/- Scales that are powers of two, over the extended reals: the exponent found by counting the powers of two not above a value, and
   the scale found as the least power of two above it, agree. -/
module

public import proofs.«01_k».proof.Proof.Quant
public import Idealize.ShloMosaic.Lib.IndicatorCount

@[expose] public section

noncomputable section

namespace Cert.Quant

open Idealize.ShloMosaic

/-- The number whose bits hold the exponent field `n` and no fraction, where `n` is neither zero nor the field of the infinity. -/
theorem ofBits_field (n : Nat) (h0 : 0 < n) (h1 : n < 255) :
    Ideal.ofBits .f32 (BitVec.ofNat 32 n <<< 23) = (((2 : ℝ) ^ ((n : ℤ) - 127) : ℝ) : EReal) := by
  have hn : (BitVec.ofNat 32 n <<< 23).toNat = n * 8388608 := by
    rw [BitVec.toNat_shiftLeft, BitVec.toNat_ofNat, Nat.shiftLeft_eq]; omega
  have e1 : ((BitVec.ofNat 32 n <<< 23).extractLsb' 23 8).toNat = n := by
    rw [BitVec.extractLsb'_toNat, hn, Nat.shiftRight_eq_div_pow]; omega
  have e2 : ((BitVec.ofNat 32 n <<< 23).extractLsb' 0 23).toNat = 0 := by
    rw [BitVec.extractLsb'_toNat, hn, Nat.shiftRight_eq_div_pow]; omega
  have e3 : ((BitVec.ofNat 32 n <<< 23).extractLsb' 31 1).toNat = 0 := by
    rw [BitVec.extractLsb'_toNat, hn, Nat.shiftRight_eq_div_pow]; omega
  have e4 : (BitVec.ofNat 32 n <<< 23).extractLsb' 31 1 = 0#1 := BitVec.eq_of_toNat_eq e3
  have a1 : ¬ n = 2 ^ 8 - 1 := by omega
  have a2 : ¬ n = 0 := by omega
  show Ideal.ieee 8 23 (BitVec.ofNat 32 n <<< 23) = _
  generalize BitVec.ofNat 32 n <<< 23 = b at e1 e2 e4
  unfold Ideal.ieee
  simp only [e1, e2, e4]
  rw [if_neg a1, if_neg a2]
  have e5 : (n : ℤ) - 127 = ((n : ℤ) - (2 ^ (8 - 1) - 1) - (23 : ℕ)) + 23 := by norm_num
  rw [e5, zpow_add₀ (two_ne_zero' ℝ)]
  refine congrArg _ ?_
  norm_num
  ring

theorem ofBits_one : Ideal.ofBits .f32 0x3F800000#32 = 1 := by
  have e : (0x3F800000#32 : BitVec 32) = BitVec.ofNat 32 127 <<< 23 := by decide
  rw [e, ofBits_field 127 (by decide) (by decide)]
  simp

/-- The `k`-th power of two a 32-bit float has, from the least normal one on, and the infinity after the last. -/
def pow2 (k : Nat) : EReal := if k < 254 then (((2 : ℝ) ^ ((k : ℤ) - 126) : ℝ) : EReal) else ⊤

theorem ofBits_pow2 (k : Nat) (h : k < 255) : Ideal.ofBits .f32 (BitVec.ofNat 32 (k + 1) <<< 23) = pow2 k := by
  unfold pow2
  by_cases hk : k < 254
  · rw [if_pos hk, ofBits_field (k + 1) (by omega) (by omega)]
    have e : ((k + 1 : ℕ) : ℤ) - 127 = (k : ℤ) - 126 := by push_cast; omega
    rw [e]
  · obtain rfl : k = 254 := by omega
    rw [if_neg hk]
    simp [Ideal.ofBits, Ideal.ieee]

theorem pow2_mono {a b : Nat} (h : a ≤ b) : pow2 a ≤ pow2 b := by
  unfold pow2
  by_cases hb : b < 254
  · rw [if_pos (by omega : a < 254), if_pos hb]
    exact EReal.coe_le_coe_iff.2 (zpow_le_zpow_right₀ (by norm_num) (by omega))
  · rw [if_neg hb]; exact le_top

/-- Below 2¹²⁶ the powers of two not above a value are the first `n` of them, for some `n`. -/
theorem exists_count (x : EReal) (hx : x < pow2 252) : ∃ n, n ≤ 252 ∧ ∀ k, pow2 k ≤ x ↔ k < n := by
  classical
  have hex : ∃ k, ¬ pow2 k ≤ x := ⟨252, not_le.2 hx⟩
  refine ⟨Nat.find hex, Nat.find_le (not_le.2 hx), fun k => ⟨fun h => ?_, fun h => ?_⟩⟩
  · by_contra hk
    exact Nat.find_spec hex (le_trans (pow2_mono (not_lt.1 hk)) h)
  · exact not_not.1 (Nat.find_min hex h)

/-- How many of the powers of two and the infinity are not above `x`, as a word. -/
def field (x : EReal) : BitVec 32 :=
  Finset.univ.fold IntOp.addi 0#32 fun k : Fin 255 => (FloatOps.cmpf (F := Ideal) (φ := .f32) .oge x (pow2 k.val)).setWidth 32

theorem field_eq (x : EReal) (n : Nat) (hn : n ≤ 252) (h : ∀ k, pow2 k ≤ x ↔ k < n) : field x = BitVec.ofNat 32 n := by
  unfold field
  rw [IndicatorCount.fold_addi_setWidth_eq_card]
  congr 1
  have e : (Finset.univ.filter fun k : Fin 255 => FloatOps.cmpf (F := Ideal) (φ := .f32) .oge x (pow2 k.val) = 1#1)
      = Finset.univ.filter fun k : Fin 255 => k.val < n := by
    refine Finset.filter_congr fun k _ => ?_
    rw [← h k.val]
    show BitVec.ofBool (decide (pow2 k.val ≤ x)) = 1#1 ↔ _
    by_cases hk : pow2 k.val ≤ x <;> simp [hk]
  rw [e, Fin.card_filter_val_lt]
  omega

/-- The least of the normal powers of two above `x`. -/
def above (x : EReal) : EReal := Finset.univ.fold min ⊤ fun k : Fin 254 => if x < pow2 k.val then pow2 k.val else ⊤

theorem above_eq (x : EReal) (n : Nat) (hn : n ≤ 252) (h : ∀ k, pow2 k ≤ x ↔ k < n) : above x = pow2 n := by
  unfold above
  refine le_antisymm ?_ ?_
  · refine (Finset.fold_min_le _).2 (Or.inr ⟨⟨n, by omega⟩, Finset.mem_univ _, ?_⟩)
    have : x < pow2 n := not_le.1 fun hk => absurd ((h n).1 hk) (lt_irrefl n)
    rw [if_pos this]
  · refine (Finset.le_fold_min _).2 ⟨le_top, fun k _ => ?_⟩
    split
    · next hk => exact pow2_mono (not_lt.1 fun hkn => absurd ((h k.val).2 hkn) (not_le.2 hk))
    · exact le_top

/-- The factor that the largest absolute value is multiplied by. -/
def unit : EReal := Ideal.ofBits .f32 0x37924925#32

/-- The scale of a row whose largest absolute value is `a`: the least power of two above `a` over the format's largest value, or
    one where `a` is zero. -/
def scale2 (a : EReal) : EReal := if a = 0 then 1 else above (a * unit)

/-- The exponent of that scale, as a word. -/
def expo (a : EReal) : BitVec 32 := if a = 0 then 0#32 else IntOp.subi (field (a * unit)) 126#32

theorem unit_real : ∃ c : ℝ, 0 < c ∧ c < 1 / 4 ∧ unit = (c : EReal) := by
  refine ⟨9586981 * (2 : ℝ) ^ (-39 : ℤ), by positivity, by norm_num [zpow_neg], ?_⟩
  unfold unit
  simp [Ideal.ofBits, Ideal.ieee]

/-- The largest 16-bit value bounds the rows of a finite operand. -/
def most : EReal := Ideal.ofBits .f32 0x7F7F0000#32

theorem most_real : ∃ c : ℝ, c < 2 ^ 128 ∧ most = (c : EReal) := by
  refine ⟨16711680 * (2 : ℝ) ^ (104 : ℤ), by norm_num, ?_⟩
  unfold most
  simp [Ideal.ofBits, Ideal.ieee]

theorem amax_le {n : Nat} (f : Fin n → EReal) (c : EReal) (h : ∀ k, FloatOps.absf (F := Ideal) (φ := .f32) (f k) ≤ c) :
    amax f ≤ c := by
  unfold amax
  refine (Finset.fold_max_le _).2 ⟨?_, fun k _ => h k⟩
  have : Ideal.ofBits .f32 0xFF800000#32 = ⊥ := by
    simp [Ideal.ofBits, Ideal.ieee]
  rw [this]; exact bot_le

/-- The largest absolute value of a finite row gives a value below 2¹²⁶. -/
theorem unit_lt (a : EReal) (h : a ≤ most) : a * unit < pow2 252 := by
  obtain ⟨u, hu0, hu1, hu⟩ := unit_real
  obtain ⟨c, hc, hm⟩ := most_real
  rw [hm] at h
  rw [hu]
  unfold pow2
  rw [if_pos (by decide)]
  induction a with
  | bot => rw [EReal.bot_mul_coe_of_pos hu0]; exact EReal.bot_lt_coe _
  | top => exact absurd h (not_le.2 (EReal.coe_lt_top c))
  | coe r =>
    rw [← EReal.coe_mul]
    refine EReal.coe_lt_coe_iff.2 ?_
    have hr : r ≤ c := EReal.coe_le_coe_iff.1 h
    have hp : (2 : ℝ) ^ (((252 : ℕ) : ℤ) - 126) = 2 ^ 128 * (1 / 4) := by norm_num
    rw [hp]
    rcases le_or_gt r 0 with h0 | h0
    · exact lt_of_le_of_lt (mul_nonpos_of_nonpos_of_nonneg h0 hu0.le) (by norm_num)
    · exact mul_lt_mul'' (lt_of_le_of_lt hr hc) hu1 h0.le hu0.le

/-- The word of the scale's exponent, put in the exponent field, is the scale; the word of its negative is the factor that
    divides by the scale. -/
theorem scale2_word (a : EReal) (h : a ≤ most) :
    Ideal.ofBits .f32 (IntOp.addi (expo a) 127#32 <<< 23) = scale2 a
      ∧ ∀ v : EReal, v * Ideal.ofBits .f32 (IntOp.subi 127#32 (expo a) <<< 23) = Ideal.div v (scale2 a) := by
  unfold scale2 expo
  have key : ∀ n : Nat, n ≤ 252 → ∀ w : BitVec 32, w = BitVec.ofNat 32 n - 126#32 → ∀ s : EReal, s = pow2 n →
      Ideal.ofBits .f32 (IntOp.addi w 127#32 <<< 23) = s
        ∧ ∀ v : EReal, v * Ideal.ofBits .f32 (IntOp.subi 127#32 w <<< 23) = Ideal.div v s := by
    rintro n hn w rfl s rfl
    have e1 : IntOp.addi (BitVec.ofNat 32 n - 126#32) 127#32 = BitVec.ofNat 32 (n + 1) := by
      unfold IntOp.addi
      refine BitVec.eq_of_toNat_eq ?_
      simp only [BitVec.toNat_add, BitVec.toNat_sub, BitVec.toNat_ofNat]
      omega
    have e2 : IntOp.subi 127#32 (BitVec.ofNat 32 n - 126#32) = BitVec.ofNat 32 (253 - n) := by
      unfold IntOp.subi
      refine BitVec.eq_of_toNat_eq ?_
      simp only [BitVec.toNat_sub, BitVec.toNat_ofNat]
      omega
    refine ⟨by rw [e1, ofBits_pow2 n (by omega)], fun v => ?_⟩
    rw [e2, ofBits_field (253 - n) (by omega) (by omega)]
    unfold pow2
    rw [if_pos (by omega), Ideal.div_coe (by positivity)]
    congr 2
    rw [one_div, ← zpow_neg]
    congr 1
    omega
  by_cases ha : a = 0
  · rw [if_pos ha, if_pos ha]
    refine key 126 (by decide) _ rfl _ ?_
    unfold pow2
    rw [if_pos (by decide)]
    simp
  · rw [if_neg ha, if_neg ha]
    obtain ⟨n, hn, hk⟩ := exists_count (a * unit) (unit_lt a h)
    exact key n hn _ (by rw [field_eq _ n hn hk]; rfl) _ (above_eq _ n hn hk)

/-- The printed choice by a value's being zero, read at an index. -/
theorem select_oeq {s : Shape} {α : Type} (a : FVec Ideal s .f32) (x y : s.Idx → α) (i : s.Idx) :
    select (cmpf .oeq a (broadcast s (Scalar.ofBits .f32 0x00000000#32))) x y i = if a i = 0 then x i else y i := by
  show Scalar.select (BitVec.ofBool (decide (a i = Ideal.ofBits .f32 0x00000000#32))) (x i) (y i) = _
  rw [Ideal.ofBits_zero_f32]
  by_cases h : a i = 0 <;> simp [h, Scalar.select]

/-- The printed lines that count the powers of two not above a column's values, read at a row. -/
theorem field_apply {m : Nat} (x : (⟨2, ![m, 1]⟩ : Shape).Idx → EReal) (hi : (⟨2, ![1, 255]⟩ : Shape).Iotas .tc 32 [1])
    (hb : (⟨2, ![m, 1]⟩ : Shape).Broadcasts ⟨2, ![m, 255]⟩) (hp : (⟨2, ![1, 255]⟩ : Shape).Broadcasts ⟨2, ![m, 255]⟩)
    (hw : 1 < 32) (hr : (⟨2, ![m, 255]⟩ : Shape).Reduces [1] ⟨1, ![m]⟩) (hacc : (0#32 : BitVec 32) = IKind.add.neutral)
    (j : (⟨1, ![m]⟩ : Shape).Idx) :
    multiReductionI .add [1] ⟨1, ![m]⟩
        (extui 32 (cmpf (F := Ideal) (φ := .f32) .oge (broadcastTo ⟨2, ![m, 255]⟩ x hb) (broadcastTo ⟨2, ![m, 255]⟩
          (bitcastToFloat (F := Ideal) .f32 (shli (addi (iota .tc ⟨2, ![1, 255]⟩ 32 [1] hi) (broadcast ⟨2, ![1, 255]⟩ 1#32))
            (broadcast ⟨2, ![1, 255]⟩ 23#32))) hp)) hw) 0#32 hr hacc j = field (x (ix2 (j 0) 0)) := by
  rw [multiReductionI_eq_fold, hr.fold_filter_drop_single]
  unfold field
  refine congrArg (fun g => Finset.fold IntOp.addi _ g Finset.univ) (funext fun k => ?_)
  show (FloatOps.cmpf (F := Ideal) (φ := .f32) .oge (broadcastTo ⟨2, ![m, 255]⟩ x hb (hr.lift j k)) (broadcastTo ⟨2, ![m, 255]⟩ _ hp (hr.lift j k))).setWidth 32 = _
  rw [bcastCol, bcastRow, ← ofBits_pow2 k.val k.isLt]
  show (FloatOps.cmpf (F := Ideal) (φ := .f32) .oge _ (Ideal.ofBits .f32 ((iota .tc ⟨2, ![1, 255]⟩ 32 [1] hi _ + 1#32) <<< 23))).setWidth 32 = _
  rw [iota_single_apply, BitVec.ofNat_add]
  rfl

/-- The printed power of two at lane `k`. -/
theorem exp2_apply (hi : (⟨2, ![1, 254]⟩ : Shape).Iotas .tc 32 [1]) (i : (⟨2, ![1, 254]⟩ : Shape).Idx) :
    exp2 (F := Ideal) (φ := .f32) (sitofp .f32 (subi (iota .tc ⟨2, ![1, 254]⟩ 32 [1] hi) (broadcast ⟨2, ![1, 254]⟩ 126#32))) i = pow2 (i 1).val := by
  have hk : (i 1).val < 254 := (i 1).isLt
  show Ideal.exp2 (((IntOp.subi (iota .tc ⟨2, ![1, 254]⟩ 32 [1] hi i) 126#32).toInt : ℝ) : EReal) = _
  rw [iota_single_apply, Ideal.exp2_coe]
  have e : (IntOp.subi (BitVec.ofNat 32 (i 1).val) 126#32).toInt = ((i 1).val : ℤ) - 126 := by
    unfold IntOp.subi
    have h1 : (BitVec.ofNat 32 (i 1).val).toInt = ((i 1).val : ℤ) := by
      rw [BitVec.toInt_eq_toNat_cond, BitVec.toNat_ofNat, Nat.mod_eq_of_lt (by omega), if_pos (by omega)]
    have h2 : (126#32).toInt = 126 := by decide
    rw [BitVec.toInt_sub, h1, h2, Int.bmod_eq_of_le (by omega) (by omega)]
  unfold pow2
  rw [if_pos hk, e]
  exact congrArg _ (Real.rpow_intCast 2 _)

/-- The printed lines that take the least power of two above a column's values, read at a row. -/
theorem above_apply {m : Nat} (x : (⟨2, ![m, 1]⟩ : Shape).Idx → EReal) (hi : (⟨2, ![1, 254]⟩ : Shape).Iotas .tc 32 [1])
    (hb : (⟨2, ![m, 1]⟩ : Shape).Broadcasts ⟨2, ![m, 254]⟩) (hp : (⟨2, ![1, 254]⟩ : Shape).Broadcasts ⟨2, ![m, 254]⟩)
    (hc : (⟨2, ![1, 254]⟩ : Shape).ShapeCasts ⟨2, ![1, 254]⟩) (hr : (⟨2, ![m, 254]⟩ : Shape).Reduces [1] ⟨1, ![m]⟩)
    (hφ : FKind.Formats .f32) (hacc : (0x7F800000#32 : BitVec 32) = FKind.minimumf.neutral .f32 hφ) (j : (⟨1, ![m]⟩ : Shape).Idx)
    (p : (⟨2, ![1, 254]⟩ : Shape).Idx → EReal)
    (he : p = exp2 (F := Ideal) (φ := .f32) (sitofp .f32 (subi (iota .tc ⟨2, ![1, 254]⟩ 32 [1] hi) (broadcast ⟨2, ![1, 254]⟩ 126#32)))) :
    multiReduction (F := Ideal) (φ := .f32) .minimumf [1] ⟨1, ![m]⟩
        (select (cmpf (F := Ideal) (φ := .f32) .ogt (broadcastTo ⟨2, ![m, 254]⟩ p hp) (broadcastTo ⟨2, ![m, 254]⟩ x hb))
          (broadcastTo ⟨2, ![m, 254]⟩ (shapeCast ⟨2, ![1, 254]⟩ p hc) hp) (broadcast ⟨2, ![m, 254]⟩ (Scalar.ofBits .f32 0x7F800000#32)))
        0x7F800000#32 hr hφ hacc j = above (x (ix2 (j 0) 0)) := by
  have hinf : Ideal.ofBits .f32 0x7F800000#32 = ⊤ := by simp [Ideal.ofBits, Ideal.ieee]
  rw [multiReduction_minimumf_eq_fold, hr.fold_filter_drop_single, shapeCast_self]
  unfold above
  show Finset.fold min (Ideal.ofBits .f32 0x7F800000#32) _ _ = _
  rw [hinf]
  refine congrArg (fun g => Finset.fold min _ g Finset.univ) (funext fun k => ?_)
  show Scalar.select (FloatOps.cmpf (F := Ideal) (φ := .f32) .ogt (broadcastTo ⟨2, ![m, 254]⟩ p hp (hr.lift j k)) (broadcastTo ⟨2, ![m, 254]⟩ x hb (hr.lift j k)))
      (broadcastTo ⟨2, ![m, 254]⟩ p hp (hr.lift j k)) (Ideal.ofBits .f32 0x7F800000#32) = _
  rw [bcastCol, bcastRow, hinf, he, exp2_apply]
  show Scalar.select (BitVec.ofBool (decide (x (ix2 (j 0) 0) < pow2 k.val))) (pow2 k.val) ⊤ = _
  by_cases hk : x (ix2 (j 0) 0) < pow2 k.val <;> simp [hk, Scalar.select]

/-- The printed lines that take the scale of each row from the rows' largest absolute values. -/
theorem scale2_apply {m : Nat} (A : FVec Ideal ⟨1, ![m]⟩ .f32) (hi : (⟨2, ![1, 254]⟩ : Shape).Iotas .tc 32 [1])
    (hs : (⟨1, ![m]⟩ : Shape).ShapeCasts ⟨2, ![m, 1]⟩)
    (hb : (⟨2, ![m, 1]⟩ : Shape).Broadcasts ⟨2, ![m, 254]⟩) (hp : (⟨2, ![1, 254]⟩ : Shape).Broadcasts ⟨2, ![m, 254]⟩)
    (hc : (⟨2, ![1, 254]⟩ : Shape).ShapeCasts ⟨2, ![1, 254]⟩) (hr : (⟨2, ![m, 254]⟩ : Shape).Reduces [1] ⟨1, ![m]⟩)
    (hφ : FKind.Formats .f32) (hacc : (0x7F800000#32 : BitVec 32) = FKind.minimumf.neutral .f32 hφ) (j : (⟨1, ![m]⟩ : Shape).Idx)
    (p : (⟨2, ![1, 254]⟩ : Shape).Idx → EReal)
    (he : p = exp2 (F := Ideal) (φ := .f32) (sitofp .f32 (subi (iota .tc ⟨2, ![1, 254]⟩ 32 [1] hi) (broadcast ⟨2, ![1, 254]⟩ 126#32)))) :
    select (cmpf (F := Ideal) (φ := .f32) .oeq A (broadcast ⟨1, ![m]⟩ (Scalar.ofBits .f32 0x00000000#32)))
      (broadcast ⟨1, ![m]⟩ (Scalar.ofBits (F := Ideal) .f32 0x3F800000#32))
      (multiReduction (F := Ideal) (φ := .f32) .minimumf [1] ⟨1, ![m]⟩
        (select (cmpf (F := Ideal) (φ := .f32) .ogt (broadcastTo ⟨2, ![m, 254]⟩ p hp)
            (broadcastTo ⟨2, ![m, 254]⟩ (shapeCast ⟨2, ![m, 1]⟩ (mulf (F := Ideal) A (broadcast ⟨1, ![m]⟩ (Scalar.ofBits .f32 0x37924925#32))) hs) hb))
          (broadcastTo ⟨2, ![m, 254]⟩ (shapeCast ⟨2, ![1, 254]⟩ p hc) hp) (broadcast ⟨2, ![m, 254]⟩ (Scalar.ofBits .f32 0x7F800000#32)))
        0x7F800000#32 hr hφ hacc) j = scale2 (A j) := by
  rw [select_oeq, above_apply _ hi hb hp hc hr hφ hacc j p he, castCol]
  unfold scale2 unit
  have hj : (ix1 (ix2 (n1 := 1) (j 0) 0 0) : (⟨1, ![m]⟩ : Shape).Idx) = j := funext fun a => by
    match a with
    | ⟨0, _⟩ => rfl
  show (if A j = 0 then Ideal.ofBits .f32 0x3F800000#32 else above (A (ix1 (ix2 (n1 := 1) (j 0) 0 0)) * Ideal.ofBits .f32 0x37924925#32)) = _
  rw [hj, ofBits_one]

attribute [irreducible] scale2 expo unit most field above pow2

end Cert.Quant
-- ==== Proof.DynPay.lean ====
module

public import proofs.«01_k».proof.Proof.Pow2
public import proofs.«01_k».proof.Proof.Gen.DynIdeal.Skeleton
public import proofs.«01_k».proof.Proof.Gen.DynRefIdeal.Skeleton

@[expose] public section

set_option maxRecDepth 16384

noncomputable section

open Idealize.ShloMosaic Idealize.SL.Sem

namespace Cert.DynIdeal.Pay
open Cert.DynIdeal Cert.DynIdeal.Gen Cert.Quant

/-- The exponents of the scales of a block of 256 rows, as a column of words. -/
theorem pay5 (v : Vec Ideal S256x2048 .bf16) (i : S256x1.Idx) : k0_pay5 (F := Ideal) v i = expo (amax fun k => v (ix2 (i 0) k)) := by
  have hA : ∀ i : S256x1.Idx, shapeCast S256x1 (multiReduction (F := Ideal) (φ := .f32) .maximumf [1] S256 (absf (k0_pay4 v)) 0xFF800000#32 reduces_S256x2048_S256 (.inl rfl) rfl)
      shapeCasts_S256_S256x1 i = amax fun k => v (ix2 (i 0) k) :=
    fun i => (castCol _ _ i).trans (congrFun (rowmax (k0_pay4 (F := Ideal) v) _ _ _) _)
  unfold k0_pay5
  generalize shapeCast S256x1 (multiReduction (F := Ideal) (φ := .f32) .maximumf [1] S256 (absf (k0_pay4 v)) 0xFF800000#32 reduces_S256x2048_S256 (.inl rfl) rfl)
    shapeCasts_S256_S256x1 = A at hA
  refine (select_oeq _ _ _ i).trans ?_
  unfold expo unit
  rw [← hA i]
  refine congrArg (fun z => if A i = 0 then 0#32 else IntOp.subi z 126#32) ?_
  refine (castCol _ _ i).trans ((field_apply _ _ _ _ _ _ _ _).trans ?_)
  have h1 : (i 1).val < 1 := (i 1).isLt
  have e : i = ix2 (i 0) 0 := funext fun a => Fin.ext (by
    match a with
    | ⟨0, _⟩ => rfl
    | ⟨1, _⟩ => show (i 1).val = 0; omega)
  exact congrArg (fun j => field (A j * Ideal.ofBits .f32 0x37924925#32)) e.symm

/-- The scales of a block of 256 finite rows, as a column. -/
theorem pay6 (v : Vec Ideal S256x2048 .bf16) (i : S256x1.Idx) (h : (amax fun k => v (ix2 (i 0) k)) ≤ most) :
    k0_pay6 (F := Ideal) v i = scale2 (amax fun k => v (ix2 (i 0) k)) := by
  unfold k0_pay6
  refine Eq.trans ?_ (scale2_word _ h).1
  rw [← pay5 v i]
  rfl

/-- The codes of a block of 256 finite rows. -/
theorem pay7 (v : Vec Ideal S256x2048 .bf16) (i : S256x2048.Idx) (h : (amax fun k => v (ix2 (i 0) k)) ≤ most) :
    k0_pay7 (F := Ideal) v i = code 0xC7600000#32 0x47600000#32 (v i) (scale2 (amax fun k => v (ix2 (i 0) k))) := by
  unfold k0_pay7 code
  refine congrArg (fun z => min (Ideal.ofBits .f32 0x47600000#32) (max (Ideal.ofBits .f32 0xC7600000#32) z)) ?_
  refine Eq.trans ?_ ((scale2_word _ h).2 (v i))
  refine congrArg (fun z => v i * z) ((bcastCol _ _ i).trans ?_)
  have e : k0_pay5 (F := Ideal) v (ix2 (i 0) 0) = expo (amax fun k => v (ix2 (i 0) k)) := pay5 v _
  rw [← e]
  rfl

/-- The column of scales written as a row. -/
theorem pay1 (s : Vec Ideal S256x1 .f32) (i : S1x1x256.Idx) : k0_pay1 (F := Ideal) s i = s (ix2 (i 2) 0) := by
  have h0 : (i 0).val < 1 := (i 0).isLt
  have h1 : (i 1).val < 1 := (i 1).isLt
  have h2 : (i 2).val < 256 := (i 2).isLt
  unfold k0_pay1
  refine (shapeCast_apply _ _ i (ix2 (n1 := 256) (0 : Fin 1) (i 2)) ?_).trans ?_
  · rw [Shape.rowMajor_val_two, Shape.rowMajor_val_three]
    show 0 * 256 + (i 2).val = ((i 0).val * 1 + (i 1).val) * 256 + (i 2).val
    omega
  by_cases h : (i 2).val < 128
  · refine (concatenate_pair_apply_left (t := S1x256) (s₁ := S1x128) (s₂ := S1x128) (1 : Fin 2) _ _ _ _ rfl (ix2 (n0 := 1) 0 (⟨(i 2).val, h⟩ : Fin 128)) fun a => ?_).trans ?_
    · match a with
      | ⟨0, _⟩ => rfl
      | ⟨1, _⟩ => rfl
    · refine (castRow _ _ _).trans ((diagRow (by decide) _ _ _ _ _ _ _ _ _).trans ?_)
      refine extractStridedSlice_apply _ _ _ _ (ix2 (i 2) 0) fun a => ?_
      match a with
      | ⟨0, _⟩ => show (i 2).val = 0 + (i 2).val; omega
      | ⟨1, _⟩ => rfl
  · refine (concatenate_pair_apply_right (t := S1x256) (s₁ := S1x128) (s₂ := S1x128) (1 : Fin 2) _ _ _ _ rfl rfl (ix2 (n0 := 1) 0 (⟨(i 2).val - 128, by omega⟩ : Fin 128)) (fun a ha => ?_) ?_).trans ?_
    · match a with
      | ⟨0, _⟩ => rfl
      | ⟨1, _⟩ => exact absurd rfl ha
    · show (i 2).val - 128 + 128 = (i 2).val; omega
    · refine (castRow _ _ _).trans ((diagRow (by decide) _ _ _ _ _ _ _ _ _).trans ?_)
      refine extractStridedSlice_apply _ _ _ _ (ix2 (i 2) 0) fun a => ?_
      match a with
      | ⟨0, _⟩ => show (i 2).val = 128 + ((i 2).val - 128); omega
      | ⟨1, _⟩ => rfl

/-- The product of a block's codes and its scales. -/
theorem pay2 (s : FVec Ideal S256x1 .f32) (c : FVec Ideal S256x2048 .fp8e5m2) (i : S256x2048.Idx) :
    k0_pay2 (F := Ideal) s c i = mulE (c i) (s (ix2 (i 0) 0)) := by
  unfold k0_pay2 mulE
  exact congrArg (fun z => c i * z) (bcastCol s _ i)

/-- The product of a block of codes and the weights, at an index. -/
theorem dot (c : FVec Ideal S256x2048 .fp8e5m2) (w : Vec Ideal S3072x2048 .fp8e4m3) (i : S256x3072.Idx) :
    matmul (F := Ideal) (φ₁ := .fp8e5m2) (φ₂ := .fp8e4m3) dot_S256x2048_S3072x2048_S256x3072_1_1_0_0_n_n none c w (constant S256x3072 .f32 0x00000000#32) i
      = dotE (fun k : Fin 2048 => c (ix2 (i 0) k)) fun k => w (ix2 (i 1) k) := by
  unfold dotE
  simp only [pointwise]
  simp (decide := true)

/-- The product scaled by the row's scale and by the weights' scale. -/
theorem pay3 (s : FVec Ideal S256x1 .f32) (c : FVec Ideal S256x2048 .fp8e5m2) (w : Vec Ideal S3072x2048 .fp8e4m3) (z : Elt Ideal .f32) (i : S256x3072.Idx) :
    k0_pay3 (F := Ideal) s c w z i = mulE (mulE (dotE (fun k : Fin 2048 => c (ix2 (i 0) k)) fun k => w (ix2 (i 1) k)) (s (ix2 (i 0) 0))) z := by
  unfold k0_pay3
  exact (mulf_at _ _ i).trans (congrArg (mulE · z) ((mulf_at _ _ i).trans (congrArg₂ mulE (dot c w i) (bcastCol _ _ i))))

end Cert.DynIdeal.Pay

namespace Cert.DynRefIdeal.Pay
open Cert.DynRefIdeal Cert.DynRefIdeal.Gen Cert.Quant

/-- The reference's scale of each row. -/
theorem pay3 (v : Vec Ideal S2048x2048 .bf16) (i : S2048.Idx) : k0_pay3 (F := Ideal) v i = scale2 (amax fun k => v (ix2 (i 0) k)) := by
  have hA : ∀ i : S2048.Idx, multiReduction (F := Ideal) (φ := .f32) .maximumf [1] S2048 (absf (k0_pay2 v)) 0xFF800000#32 reduces_S2048x2048_S2048 (.inl rfl) rfl i
      = amax fun k => v (ix2 (i 0) k) := fun i => congrFun (rowmax (k0_pay2 (F := Ideal) v) _ _ _) i
  unfold k0_pay3
  exact (scale2_apply _ _ _ _ _ _ _ _ _ i _ rfl).trans (congrArg scale2 (hA i))

/-- The reference's scales as a column. -/
theorem colScale (v : Vec Ideal S2048x2048 .bf16) (i : S2048x1.Idx) :
    shapeCast S2048x1 (k0_pay3 (F := Ideal) v) shapeCasts_S2048_S2048x1 i = scale2 (amax fun k => v (ix2 (i 0) k)) :=
  (castCol _ _ i).trans (pay3 v _)

/-- The reference's codes. -/
theorem pay4 (v : Vec Ideal S2048x2048 .bf16) (i : S2048x2048.Idx) :
    k0_pay4 (F := Ideal) v i = code 0xC7600000#32 0x47600000#32 (v i) (scale2 (amax fun k => v (ix2 (i 0) k))) := by
  unfold k0_pay4
  exact (clip_apply 0xC7600000#32 0x47600000#32 (k0_pay2 (F := Ideal) v) _ i).trans
    (congrArg (code _ _ _) ((bcastCol _ _ i).trans (colScale v _)))

/-- Row `i 2` of the block `i 0` of 256 rows. -/
def row (b : Fin 8) (r : Fin 256) : Fin 2048 := ⟨b.val * 256 + r.val, by omega⟩

/-- The reference's scales, in blocks of 256. -/
theorem pay5 (v : Vec Ideal S2048x2048 .bf16) (i : S8x1x256.Idx) :
    k0_pay5 (F := Ideal) v i = scale2 (amax fun k => v (ix2 (row (i 0) (i 2)) k)) := by
  have h1 : (i 1).val < 1 := (i 1).isLt
  unfold k0_pay5
  refine (shapeCast_apply _ _ i (ix1 (row (i 0) (i 2))) ?_).trans (pay3 v _)
  rw [Shape.rowMajor_val_one, Shape.rowMajor_val_three]
  show (i 0).val * 256 + (i 2).val = ((i 0).val * 1 + (i 1).val) * 256 + (i 2).val
  omega

/-- A change of format leaves an extended real as it is. -/
theorem widen (c : FVec Ideal S2048x2048 .fp8e5m2) (i : S2048x2048.Idx) : extf (F := Ideal) .bf16 c bitsLt_fp8e5m2_bf16 i = c i := rfl
theorem narrow (s : FVec Ideal S2048x1 .f32) (i : S2048x1.Idx) : truncf (F := Ideal) .bf16 s bitsLt_bf16_f32 i = s i := rfl

/-- The reference's product of codes and scales. -/
theorem pay6 (v : Vec Ideal S2048x2048 .bf16) (i : S2048x2048.Idx) :
    k0_pay6 (F := Ideal) v i = mulE (code 0xC7600000#32 0x47600000#32 (v i) (scale2 (amax fun k => v (ix2 (i 0) k)))) (scale2 (amax fun k => v (ix2 (i 0) k))) := by
  unfold k0_pay6
  refine (mulf_at _ _ i).trans (congrArg₂ mulE ?_ ?_)
  · exact (widen (k0_pay4 (F := Ideal) v) i).trans (pay4 v i)
  · exact (bcastCol _ _ i).trans ((narrow (shapeCast S2048x1 (k0_pay3 (F := Ideal) v) shapeCasts_S2048_S2048x1) (ix2 (i 0) 0)).trans (colScale v _))

/-- The reference's product, at an index. -/
theorem dot (c : FVec Ideal S2048x2048 .fp8e5m2) (w : Vec Ideal S3072x2048 .fp8e4m3) (i : S2048x3072.Idx) :
    matmul (F := Ideal) (φ₁ := .fp8e5m2) (φ₂ := .fp8e4m3) dot_S2048x2048_S3072x2048_S2048x3072_1_1_0_0_n_n none c w (constant S2048x3072 .f32 0x00000000#32) i
      = dotE (fun k : Fin 2048 => c (ix2 (i 0) k)) fun k => w (ix2 (i 1) k) := by
  unfold dotE
  simp only [pointwise]
  simp (decide := true)

/-- The reference's product scaled by the row's scale and by the weights' scale. -/
theorem pay1 (v : Vec Ideal S2048x2048 .bf16) (w : Vec Ideal S3072x2048 .fp8e4m3) (z : Vec Ideal S1x1 .f32) (i : S2048x3072.Idx) :
    k0_pay1 (F := Ideal) (k0_pay3 v) (k0_pay4 v) w z i = mulE (mulE (dotE (fun k : Fin 2048 => k0_pay4 (F := Ideal) v (ix2 (i 0) k)) fun k => w (ix2 (i 1) k))
      (scale2 (amax fun k => v (ix2 (i 0) k)))) (z (ix2 0 0)) := by
  unfold k0_pay1
  refine (mulf_at _ _ i).trans (congrArg₂ mulE ((mulf_at _ _ i).trans (congrArg₂ mulE (dot (k0_pay4 (F := Ideal) v) w i) ?_)) ?_)
  · exact (bcastCol _ _ i).trans (colScale v _)
  · rw [shapeCast_self]
    refine broadcastTo_apply z _ i _ fun a => ?_
    match a with
    | ⟨0, _⟩ => rfl
    | ⟨1, _⟩ => rfl

end Cert.DynRefIdeal.Pay

end
-- ==== Proof.DynBlock.lean ====
module

public import proofs.«01_k».proof.Proof.DynPay
public import proofs.«01_k».proof.Proof.Gen.DynIdeal.Value
public import Idealize.ShloMosaic.Lib.Pipeline.ValueKit

@[expose] public section

set_option maxRecDepth 16384

noncomputable section

open Idealize.ShloMosaic Idealize.ShloMosaic.TcCoe Idealize.SL.Sem

namespace Cert.DynIdeal.Block
open Cert.DynIdeal Cert.DynIdeal.Gen Cert.Quant

theorem hz : (![0, 0] : Fin 2 → Nat) = fun _ => 0 := funext fun a => by fin_cases a <;> rfl

variable (c : Dev nD) (i : grid0.Coords) (a1 : Memref sig .tc .smem S1 .f32) (h1 : a1.IsWhole) (a2 : Memref sig .tc .vmem S256x2048 .bf16) (h2 : a2.IsWhole) (a3 : Memref sig .tc .vmem S3072x2048 .fp8e4m3) (h3 : a3.IsWhole) (a4 : Memref sig .tc .vmem S256x3072 .f32) (h4 : a4.IsWhole) (a5 : Memref sig .tc .vmem S256x2048 .fp8e5m2) (h5 : a5.IsWhole) (a6 : Memref sig .tc .vmem S1x1x256 .f32) (h6 : a6.IsWhole) (a7 : Memref sig .tc .vmem S256x2048 .bf16) (h7 : a7.IsWhole)

/-- What the body leaves of the codes. -/
theorem out4 (x0 : Vec Ideal S1 .f32) (x1 : Vec Ideal S256x2048 .bf16) (x2 : Vec Ideal S3072x2048 .fp8e4m3) :
    out0_A_4 (F := Ideal) c i a1 h1 a2 h2 a3 h3 a4 h4 a5 h5 a6 h6 a7 h7 x0 x1 x2 = k0_pay7 x1 := by
  frame_out

/-- What the body leaves of the scales. -/
theorem out5 (x0 : Vec Ideal S1 .f32) (x1 : Vec Ideal S256x2048 .bf16) (x2 : Vec Ideal S3072x2048 .fp8e4m3) :
    out0_A_5 (F := Ideal) c i a1 h1 a2 h2 a3 h3 a4 h4 a5 h5 a6 h6 a7 h7 x0 x1 x2 = k0_pay1 (k0_pay6 x1) := by
  frame_out

/-- What the body leaves of the codes times the scales. -/
theorem out6 (x0 : Vec Ideal S1 .f32) (x1 : Vec Ideal S256x2048 .bf16) (x2 : Vec Ideal S3072x2048 .fp8e4m3) :
    out0_A_6 (F := Ideal) c i a1 h1 a2 h2 a3 h3 a4 h4 a5 h5 a6 h6 a7 h7 x0 x1 x2 = k0_pay2 (k0_pay6 x1) (k0_pay7 x1) := by
  frame_out

/-- What the body leaves of the product. -/
theorem out3 (x0 : Vec Ideal S1 .f32) (x1 : Vec Ideal S256x2048 .bf16) (x2 : Vec Ideal S3072x2048 .fp8e4m3) :
    out0_A_3 (F := Ideal) c i a1 h1 a2 h2 a3 h3 a4 h4 a5 h5 a6 h6 a7 h7 x0 x1 x2 = k0_pay3 (k0_pay6 x1) (k0_pay7 x1) x2 (x0 (ix1 0)) := by
  frame_out
  refine congrArg (k0_pay3 (F := Ideal) (k0_pay6 x1) (k0_pay7 x1) x2) (congrArg x0 (funext fun a => ?_))
  apply Fin.ext
  match a with
  | ⟨0, _⟩ => rfl

end Cert.DynIdeal.Block

end
-- ==== Proof.DynRefValue.lean ====
module

public import proofs.«01_k».proof.Proof.DynPay
public import proofs.«01_k».proof.Proof.Gen.DynRefIdeal.Value
public import Idealize.ShloMosaic.Lib.Pipeline.ValueKit

@[expose] public section

set_option maxRecDepth 16384

noncomputable section

open Idealize.ShloMosaic Idealize.ShloMosaic.TcCoe Idealize.SL.Sem
open Cert.Quant

namespace Cert.DynRefIdeal.Arrays
open Cert.DynRefIdeal Cert.DynRefIdeal.Gen Cert.DynRefIdeal.Value

variable (m : (ℓ : Loc nD τ sig) → Buf (Elt Ideal) ℓ)

/-- The scale of the weights as a one by one array. -/
def one (z : Vec Ideal S_ .f32) : Vec Ideal S1x1 .f32 := shapeCast S1x1 z shapeCasts_S_S1x1

theorem entry0 (c : Dev nD) : V m c main_v0 = one (m ((c : Thread nD τ).loc main_arg2)) := by
  entry_read
  rfl

theorem hz : (![0, 0] : Fin 2 → Nat) = fun _ => 0 := funext fun a => by fin_cases a <;> rfl
theorem hz3 : (![0, 0, 0] : Fin 3 → Nat) = fun _ => 0 := funext fun a => by fin_cases a <;> rfl

/-- The one point reads and writes whole arrays. -/
theorem idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0 :=
  (by decide +kernel : ∀ t : Fin grid0.N, _)

theorem emb0 (t : Fin cfg0.N) (j : S1x1.Idx) : ((cfg0.win 0).blk t).view.emb j = j := by
  obtain ⟨a0, a1, -⟩ := idx t
  funext a; apply Fin.ext
  match a with
  | ⟨0, _⟩ => show win0_0.index t (0 : Fin 2) * 1 + 1 * (j 0).val = (j 0).val; omega
  | ⟨1, _⟩ => show win0_0.index t (1 : Fin 2) * 1 + 1 * (j 1).val = (j 1).val; omega

theorem emb1 (t : Fin cfg0.N) (j : S2048x2048.Idx) : ((cfg0.win 1).blk t).view.emb j = j := by
  obtain ⟨-, -, a0, a1, -⟩ := idx t
  funext a; apply Fin.ext
  match a with
  | ⟨0, _⟩ => show win0_1.index t (0 : Fin 2) * 2048 + 1 * (j 0).val = (j 0).val; omega
  | ⟨1, _⟩ => show win0_1.index t (1 : Fin 2) * 2048 + 1 * (j 1).val = (j 1).val; omega

theorem emb2 (t : Fin cfg0.N) (j : S3072x2048.Idx) : ((cfg0.win 2).blk t).view.emb j = j := by
  obtain ⟨-, -, -, -, a0, a1, -⟩ := idx t
  funext a; apply Fin.ext
  match a with
  | ⟨0, _⟩ => show win0_2.index t (0 : Fin 2) * 3072 + 1 * (j 0).val = (j 0).val; omega
  | ⟨1, _⟩ => show win0_2.index t (1 : Fin 2) * 2048 + 1 * (j 1).val = (j 1).val; omega

theorem emb3 (t : Fin cfg0.N) (j : S2048x3072.Idx) : ((cfg0.win 3).blk t).view.emb j = j := by
  obtain ⟨-, -, -, -, -, -, a0, a1, -⟩ := idx t
  funext a; apply Fin.ext
  match a with
  | ⟨0, _⟩ => show win0_3.index t (0 : Fin 2) * 2048 + 1 * (j 0).val = (j 0).val; omega
  | ⟨1, _⟩ => show win0_3.index t (1 : Fin 2) * 3072 + 1 * (j 1).val = (j 1).val; omega

theorem emb4 (t : Fin cfg0.N) (j : S2048x2048.Idx) : ((cfg0.win 4).blk t).view.emb j = j := by
  obtain ⟨-, -, -, -, -, -, -, -, a0, a1, -⟩ := idx t
  funext a; apply Fin.ext
  match a with
  | ⟨0, _⟩ => show win0_4.index t (0 : Fin 2) * 2048 + 1 * (j 0).val = (j 0).val; omega
  | ⟨1, _⟩ => show win0_4.index t (1 : Fin 2) * 2048 + 1 * (j 1).val = (j 1).val; omega

theorem emb5 (t : Fin cfg0.N) (j : S8x1x256.Idx) : ((cfg0.win 5).blk t).view.emb j = j := by
  obtain ⟨-, -, -, -, -, -, -, -, -, -, a0, a1, a2, -⟩ := idx t
  funext a; apply Fin.ext
  match a with
  | ⟨0, _⟩ => show win0_5.index t (0 : Fin 3) * 8 + 1 * (j 0).val = (j 0).val; omega
  | ⟨1, _⟩ => show win0_5.index t (1 : Fin 3) * 1 + 1 * (j 1).val = (j 1).val; omega
  | ⟨2, _⟩ => show win0_5.index t (2 : Fin 3) * 256 + 1 * (j 2).val = (j 2).val; omega

theorem emb6 (t : Fin cfg0.N) (j : S2048x2048.Idx) : ((cfg0.win 6).blk t).view.emb j = j := by
  obtain ⟨-, -, -, -, -, -, -, -, -, -, -, -, -, a0, a1⟩ := idx t
  funext a; apply Fin.ext
  match a with
  | ⟨0, _⟩ => show win0_6.index t (0 : Fin 2) * 2048 + 1 * (j 0).val = (j 0).val; omega
  | ⟨1, _⟩ => show win0_6.index t (1 : Fin 2) * 2048 + 1 * (j 1).val = (j 1).val; omega

theorem iblk0 (c : Dev nD) (t : Fin cfg0.N) : iblk m c 0 t = V m c main_v0 := by
  funext j
  show V m c main_v0 (((cfg0.win 0).blk t).view.emb j) = _
  rw [emb0]

theorem iblk1 (c : Dev nD) (t : Fin cfg0.N) : iblk m c 1 t = V m c main_arg0 := by
  funext j
  show V m c main_arg0 (((cfg0.win 1).blk t).view.emb j) = _
  rw [emb1]

theorem iblk2 (c : Dev nD) (t : Fin cfg0.N) : iblk m c 2 t = V m c main_arg1 := by
  funext j
  show V m c main_arg1 (((cfg0.win 2).blk t).view.emb j) = _
  rw [emb2]

theorem out3 (x0 : Vec Ideal S1x1 .f32) (x1 : Vec Ideal S2048x2048 .bf16) (x2 : Vec Ideal S3072x2048 .fp8e4m3) :
    out0_3 (F := Ideal) x0 x1 x2 = k0_pay1 (k0_pay3 x1) (k0_pay4 x1) x2 x0 := by
  unfold out0_3
  rw [View.canon_unit_zero hz, View.ld_unit_zero (S := S1x1) hz _ x0, View.ld_unit_zero (S := S2048x2048) hz _ x1, View.ld_unit_zero (S := S3072x2048) hz _ x2]

theorem out4 (x0 : Vec Ideal S1x1 .f32) (x1 : Vec Ideal S2048x2048 .bf16) (x2 : Vec Ideal S3072x2048 .fp8e4m3) :
    out0_4 (F := Ideal) x0 x1 x2 = k0_pay4 x1 := by
  unfold out0_4
  rw [View.canon_unit_zero hz, View.ld_unit_zero (S := S2048x2048) hz _ x1]

theorem out5 (x0 : Vec Ideal S1x1 .f32) (x1 : Vec Ideal S2048x2048 .bf16) (x2 : Vec Ideal S3072x2048 .fp8e4m3) :
    out0_5 (F := Ideal) x0 x1 x2 = k0_pay5 x1 := by
  unfold out0_5
  rw [View.canon_unit_zero hz3, View.ld_unit_zero (S := S2048x2048) hz _ x1]

theorem out6 (x0 : Vec Ideal S1x1 .f32) (x1 : Vec Ideal S2048x2048 .bf16) (x2 : Vec Ideal S3072x2048 .fp8e4m3) :
    out0_6 (F := Ideal) x0 x1 x2 = k0_pay6 x1 := by
  unfold out0_6
  rw [View.canon_unit_zero hz, View.ld_unit_zero (S := S2048x2048) hz _ x1]

/-- A block that is the whole array. -/
theorem cut3 (t : Fin cfg0.N) (G : Vec Ideal S2048x3072 .f32) :
    (cfg0.win 3).cut (grid0.coords t) G = ((cfg0.win 3).blk t).view.read (Elt Ideal) G := by
  funext j
  show G j = G (((cfg0.win 3).blk t).view.emb j)
  exact congrArg G (emb3 t j).symm

theorem cut4 (t : Fin cfg0.N) (G : Vec Ideal S2048x2048 .fp8e5m2) :
    (cfg0.win 4).cut (grid0.coords t) G = ((cfg0.win 4).blk t).view.read (Elt Ideal) G := by
  funext j
  show G j = G (((cfg0.win 4).blk t).view.emb j)
  exact congrArg G (emb4 t j).symm

theorem cut5 (t : Fin cfg0.N) (G : Vec Ideal S8x1x256 .f32) :
    (cfg0.win 5).cut (grid0.coords t) G = ((cfg0.win 5).blk t).view.read (Elt Ideal) G := by
  funext j
  show G j = G (((cfg0.win 5).blk t).view.emb j)
  exact congrArg G (emb5 t j).symm

theorem cut6 (t : Fin cfg0.N) (G : Vec Ideal S2048x2048 .bf16) :
    (cfg0.win 6).cut (grid0.coords t) G = ((cfg0.win 6).blk t).view.read (Elt Ideal) G := by
  funext j
  show G j = G (((cfg0.win 6).blk t).view.emb j)
  exact congrArg G (emb6 t j).symm

theorem covered3 (i : S2048x3072.Idx) : ∃ t : Fin cfg0.N, (cfg0.win 3).flush t = true ∧ i ∈ ((cfg0.win 3).blk t).view.set := by
  refine ⟨t0_0, flush0_3 _, ?_⟩
  have h := ((cfg0.win 3).blk t0_0).view.emb_mem_set i
  rw [emb3] at h
  exact h

theorem covered4 (i : S2048x2048.Idx) : ∃ t : Fin cfg0.N, (cfg0.win 4).flush t = true ∧ i ∈ ((cfg0.win 4).blk t).view.set := by
  refine ⟨t0_0, flush0_4 _, ?_⟩
  have h := ((cfg0.win 4).blk t0_0).view.emb_mem_set i
  rw [emb4] at h
  exact h

theorem covered5 (i : S8x1x256.Idx) : ∃ t : Fin cfg0.N, (cfg0.win 5).flush t = true ∧ i ∈ ((cfg0.win 5).blk t).view.set := by
  refine ⟨t0_0, flush0_5 _, ?_⟩
  have h := ((cfg0.win 5).blk t0_0).view.emb_mem_set i
  rw [emb5] at h
  exact h

theorem covered6 (i : S2048x2048.Idx) : ∃ t : Fin cfg0.N, (cfg0.win 6).flush t = true ∧ i ∈ ((cfg0.win 6).blk t).view.set := by
  refine ⟨t0_0, flush0_6 _, ?_⟩
  have h := ((cfg0.win 6).blk t0_0).view.emb_mem_set i
  rw [emb6] at h
  exact h

/-- The reference's product over the arrays of its arguments. -/
def dyn (v : Vec Ideal S2048x2048 .bf16) (w : Vec Ideal S3072x2048 .fp8e4m3) (z : Vec Ideal S_ .f32) : Vec Ideal S2048x3072 .f32 :=
  k0_pay1 (F := Ideal) (k0_pay3 v) (k0_pay4 v) w (one z)

theorem flushed3_eq (c : Dev nD) (t : Fin cfg0.N) : (dats m 0 c).flushed 3 t = ((cfg0.win 3).blk t).view.read (Elt Ideal)
    (dyn (m ((c : Thread nD τ).loc main_arg0)) (m ((c : Thread nD τ).loc main_arg1)) (m ((c : Thread nD τ).loc main_arg2))) := by
  rw [flushed3, out3, iblk0, iblk1, iblk2, entry0, V_main_arg0, V_main_arg1]
  exact cut3 t _

theorem flushed4_eq (c : Dev nD) (t : Fin cfg0.N) : (dats m 0 c).flushed 4 t = ((cfg0.win 4).blk t).view.read (Elt Ideal)
    (k0_pay4 (F := Ideal) (m ((c : Thread nD τ).loc main_arg0))) := by
  rw [flushed4, out4, iblk1, V_main_arg0]
  exact cut4 t _

theorem flushed5_eq (c : Dev nD) (t : Fin cfg0.N) : (dats m 0 c).flushed 5 t = ((cfg0.win 5).blk t).view.read (Elt Ideal)
    (k0_pay5 (F := Ideal) (m ((c : Thread nD τ).loc main_arg0))) := by
  rw [flushed5, out5, iblk1, V_main_arg0]
  exact cut5 t _

theorem flushed6_eq (c : Dev nD) (t : Fin cfg0.N) : (dats m 0 c).flushed 6 t = ((cfg0.win 6).blk t).view.read (Elt Ideal)
    (k0_pay6 (F := Ideal) (m ((c : Thread nD τ).loc main_arg0))) := by
  rw [flushed6, out6, iblk1, V_main_arg0]
  exact cut6 t _

/-- The reference's run: its four results as functions of its arguments, and these unchanged. -/
theorem run (ρ : Dev nD → PrngReg) : θ_run defs (onTc (τ := τ) (main (F := Ideal))) ⟨m, fun _ => 0, ρ⟩ fun r => ∀ c : Dev nD,
      r.2.mem ((c : Thread nD τ).loc main_v1_0)
          = dyn (m ((c : Thread nD τ).loc main_arg0)) (m ((c : Thread nD τ).loc main_arg1)) (m ((c : Thread nD τ).loc main_arg2))
      ∧ r.2.mem ((c : Thread nD τ).loc main_v1_1) = k0_pay4 (F := Ideal) (m ((c : Thread nD τ).loc main_arg0))
      ∧ r.2.mem ((c : Thread nD τ).loc main_v1_2) = k0_pay5 (F := Ideal) (m ((c : Thread nD τ).loc main_arg0))
      ∧ r.2.mem ((c : Thread nD τ).loc main_v1_3) = k0_pay6 (F := Ideal) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans ((dats m 0 c).arrAt_eq_of_cover 3 _ (fun t _ => flushed3_eq m c t) covered3),
        (h c).2.1.trans ((dats m 0 c).arrAt_eq_of_cover 4 _ (fun t _ => flushed4_eq m c t) covered4),
        (h c).2.2.1.trans ((dats m 0 c).arrAt_eq_of_cover 5 _ (fun t _ => flushed5_eq m c t) covered5),
        (h c).2.2.2.1.trans ((dats m 0 c).arrAt_eq_of_cover 6 _ (fun t _ => flushed6_eq m c t) covered6), (h c).2.2.2.2⟩)
    (run_blocks m ρ)

end Cert.DynRefIdeal.Arrays

end
-- ==== Proof.DynValue.lean ====
module

public import proofs.«01_k».proof.Defs
public import proofs.«01_k».proof.Proof.DynBlock
public import proofs.«01_k».proof.Proof.DynRefValue
public import Idealize.ShloMosaic.Lib.ReduceAll

@[expose] public section

set_option maxRecDepth 16384

noncomputable section

open Idealize.ShloMosaic Idealize.ShloMosaic.TcCoe Idealize.SL.Sem
open Cert.Quant

namespace Cert.DynIdeal.Arrays
open Cert.DynIdeal Cert.DynIdeal.Gen Cert.DynIdeal.Value
open Cert.DynRefIdeal.Arrays (one dyn)

variable (m : (ℓ : Loc nD τ sig) → Buf (Elt Ideal) ℓ)

/-- Point `t` reads and writes the rows of block `t`; the weights and their scale it reads whole. -/
theorem idx : ∀ t : Fin cfg0.N, win0_0.index t (0 : Fin 1) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 2) = t.val ∧ win0_6.index t (1 : Fin 2) = 0 :=
  (by decide +kernel : ∀ t : Fin grid0.N, _)

/-- Row `j` of block `t`. -/
def row (t : Fin cfg0.N) (j : Fin 256) : Fin 2048 := ⟨t.val * 256 + j.val, by have : t.val < 8 := t.isLt; omega⟩

/-- The place of block `t` in the scales' array of eight rows. -/
def blk (t : Fin cfg0.N) : Fin 8 := ⟨t.val, t.isLt⟩

theorem emb0 (t : Fin cfg0.N) (j : S1.Idx) : ((cfg0.win 0).blk t).view.emb j = j := by
  obtain ⟨a0, -⟩ := idx t
  funext a; apply Fin.ext
  match a with
  | ⟨0, _⟩ => show win0_0.index t (0 : Fin 1) * 1 + 1 * (j 0).val = (j 0).val; omega

theorem emb1 (t : Fin cfg0.N) (j : S256x2048.Idx) : ((cfg0.win 1).blk t).view.emb j = ix2 (row t (j 0)) (j 1) := by
  obtain ⟨-, a0, a1, -⟩ := idx t
  funext a; apply Fin.ext
  match a with
  | ⟨0, _⟩ => show win0_1.index t (0 : Fin 2) * 256 + 1 * (j 0).val = t.val * 256 + (j 0).val; omega
  | ⟨1, _⟩ => show win0_1.index t (1 : Fin 2) * 2048 + 1 * (j 1).val = (j 1).val; omega

theorem emb2 (t : Fin cfg0.N) (j : S3072x2048.Idx) : ((cfg0.win 2).blk t).view.emb j = j := by
  obtain ⟨-, -, -, a0, a1, -⟩ := idx t
  funext a; apply Fin.ext
  match a with
  | ⟨0, _⟩ => show win0_2.index t (0 : Fin 2) * 3072 + 1 * (j 0).val = (j 0).val; omega
  | ⟨1, _⟩ => show win0_2.index t (1 : Fin 2) * 2048 + 1 * (j 1).val = (j 1).val; omega

theorem emb3 (t : Fin cfg0.N) (j : S256x3072.Idx) : ((cfg0.win 3).blk t).view.emb j = ix2 (row t (j 0)) (j 1) := by
  obtain ⟨-, -, -, -, -, a0, a1, -⟩ := idx t
  funext a; apply Fin.ext
  match a with
  | ⟨0, _⟩ => show win0_3.index t (0 : Fin 2) * 256 + 1 * (j 0).val = t.val * 256 + (j 0).val; omega
  | ⟨1, _⟩ => show win0_3.index t (1 : Fin 2) * 3072 + 1 * (j 1).val = (j 1).val; omega

theorem emb4 (t : Fin cfg0.N) (j : S256x2048.Idx) : ((cfg0.win 4).blk t).view.emb j = ix2 (row t (j 0)) (j 1) := by
  obtain ⟨-, -, -, -, -, -, -, a0, a1, -⟩ := idx t
  funext a; apply Fin.ext
  match a with
  | ⟨0, _⟩ => show win0_4.index t (0 : Fin 2) * 256 + 1 * (j 0).val = t.val * 256 + (j 0).val; omega
  | ⟨1, _⟩ => show win0_4.index t (1 : Fin 2) * 2048 + 1 * (j 1).val = (j 1).val; omega

theorem emb5 (t : Fin cfg0.N) (j : S1x1x256.Idx) : ((cfg0.win 5).blk t).view.emb j = ix3 (blk t) (j 1) (j 2) := by
  obtain ⟨-, -, -, -, -, -, -, -, -, a0, a1, a2, -⟩ := idx t
  have h0 : (j 0).val < 1 := (j 0).isLt
  funext a; apply Fin.ext
  match a with
  | ⟨0, _⟩ => show win0_5.index t (0 : Fin 3) * 1 + 1 * (j 0).val = t.val; omega
  | ⟨1, _⟩ => show win0_5.index t (1 : Fin 3) * 1 + 1 * (j 1).val = (j 1).val; omega
  | ⟨2, _⟩ => show win0_5.index t (2 : Fin 3) * 256 + 1 * (j 2).val = (j 2).val; omega

theorem emb6 (t : Fin cfg0.N) (j : S256x2048.Idx) : ((cfg0.win 6).blk t).view.emb j = ix2 (row t (j 0)) (j 1) := by
  obtain ⟨-, -, -, -, -, -, -, -, -, -, -, -, a0, a1⟩ := idx t
  funext a; apply Fin.ext
  match a with
  | ⟨0, _⟩ => show win0_6.index t (0 : Fin 2) * 256 + 1 * (j 0).val = t.val * 256 + (j 0).val; omega
  | ⟨1, _⟩ => show win0_6.index t (1 : Fin 2) * 2048 + 1 * (j 1).val = (j 1).val; omega

/-- The weights' scale, handed over as a vector of one element. -/
theorem entry0 (c : Dev nD) : V m c main_v0 = shapeCast S1 (m ((c : Thread nD τ).loc main_arg2) : Vec Ideal S_ .f32) shapeCasts_S_S1 := by
  entry_read
  rfl

theorem iblk0 (c : Dev nD) (t : Fin cfg0.N) : iblk m c 0 t = V m c main_v0 := by
  funext j
  show V m c main_v0 (((cfg0.win 0).blk t).view.emb j) = _
  rw [emb0]

/-- The block of the gradient at point `t`. -/
theorem iblk1 (c : Dev nD) (t : Fin cfg0.N) (j : S256x2048.Idx) : iblk m c 1 t j = V m c main_arg0 (ix2 (row t (j 0)) (j 1)) := by
  show V m c main_arg0 (((cfg0.win 1).blk t).view.emb j) = _
  exact congrArg (V m c main_arg0) (emb1 t j)

theorem iblk2 (c : Dev nD) (t : Fin cfg0.N) : iblk m c 2 t = V m c main_arg1 := by
  funext j
  show V m c main_arg1 (((cfg0.win 2).blk t).view.emb j) = _
  rw [emb2]

/-- The weights' scale as the kernel and as the reference read it. -/
theorem oneOf (z : Vec Ideal S_ .f32) : shapeCast S1 z shapeCasts_S_S1 (ix1 0) = one z (ix2 0 0) := by
  unfold one
  refine (shapeCast_apply z shapeCasts_S_S1 (ix1 0) (fun a => a.elim0) ?_).trans (shapeCast_apply z _ (ix2 0 0) (fun a => a.elim0) ?_).symm
  · have h : (S_.rowMajor (fun a => a.elim0)).val < 1 := (S_.rowMajor (fun a => a.elim0)).isLt
    rw [Shape.rowMajor_val_one]
    show _ = 0
    omega
  · have h : (S_.rowMajor (fun a => a.elim0)).val < 1 := (S_.rowMajor (fun a => a.elim0)).isLt
    rw [Shape.rowMajor_val_two]
    show _ = 0 * 1 + 0
    omega

/-- A row's largest absolute value, in the block and in the array. -/
theorem rowOf (v : Vec Ideal S2048x2048 .bf16) (X : Vec Ideal S256x2048 .bf16) (t : Fin cfg0.N)
    (h : ∀ j : S256x2048.Idx, X j = v (ix2 (row t (j 0)) (j 1))) (r : Fin 256) :
    amax (fun k : Fin 2048 => X (ix2 r k)) = amax fun k : Fin 2048 => v (ix2 (row t r) k) :=
  congrArg (amax (n := 2048)) (funext fun k => h (ix2 r k))

/-- The scales of block `t` are the reference's scales there. -/
theorem scaleOf (v : Vec Ideal S2048x2048 .bf16) (hv : ∀ r : Fin 2048, (amax fun k => v (ix2 r k)) ≤ most) (X : Vec Ideal S256x2048 .bf16) (t : Fin cfg0.N)
    (h : ∀ j : S256x2048.Idx, X j = v (ix2 (row t (j 0)) (j 1))) (r : Fin 256) :
    k0_pay6 (F := Ideal) X (ix2 r 0) = scale2 (amax fun k : Fin 2048 => v (ix2 (row t r) k)) := by
  have e := rowOf v X t h r
  refine (Pay.pay6 X (ix2 r 0) ?_).trans (congrArg scale2 e)
  exact (le_of_eq e).trans (hv _)

/-- The codes of block `t`, in the terms of the array. -/
theorem codeOf (v : Vec Ideal S2048x2048 .bf16) (hv : ∀ r : Fin 2048, (amax fun k => v (ix2 r k)) ≤ most) (X : Vec Ideal S256x2048 .bf16) (t : Fin cfg0.N)
    (h : ∀ j : S256x2048.Idx, X j = v (ix2 (row t (j 0)) (j 1))) (j : S256x2048.Idx) :
    k0_pay7 (F := Ideal) X j = code 0xC7600000#32 0x47600000#32 (v (ix2 (row t (j 0)) (j 1))) (scale2 (amax fun k : Fin 2048 => v (ix2 (row t (j 0)) k))) := by
  have e := rowOf v X t h (j 0)
  refine (Pay.pay7 X j ?_).trans (congrArg₂ (code 0xC7600000#32 0x47600000#32) (h j) (congrArg scale2 e))
  exact (le_of_eq e).trans (hv _)

/-- The codes of block `t` are the reference's codes there. -/
theorem at4 (v : Vec Ideal S2048x2048 .bf16) (hv : ∀ r : Fin 2048, (amax fun k => v (ix2 r k)) ≤ most) (X : Vec Ideal S256x2048 .bf16) (t : Fin cfg0.N)
    (h : ∀ j : S256x2048.Idx, X j = v (ix2 (row t (j 0)) (j 1))) (j : S256x2048.Idx) :
    k0_pay7 (F := Ideal) X j = Cert.DynRefIdeal.Gen.k0_pay4 (F := Ideal) v (ix2 (row t (j 0)) (j 1)) :=
  (codeOf v hv X t h j).trans (Cert.DynRefIdeal.Pay.pay4 v (ix2 (row t (j 0)) (j 1))).symm

/-- The scales' row of block `t` is the reference's. -/
theorem at5 (v : Vec Ideal S2048x2048 .bf16) (hv : ∀ r : Fin 2048, (amax fun k => v (ix2 r k)) ≤ most) (X : Vec Ideal S256x2048 .bf16) (t : Fin cfg0.N)
    (h : ∀ j : S256x2048.Idx, X j = v (ix2 (row t (j 0)) (j 1))) (j : S1x1x256.Idx) :
    k0_pay1 (F := Ideal) (k0_pay6 X) j = Cert.DynRefIdeal.Gen.k0_pay5 (F := Ideal) v (ix3 (blk t) (j 1) (j 2)) := by
  refine (Pay.pay1 (k0_pay6 X) j).trans ((scaleOf v hv X t h (j 2)).trans (Eq.trans ?_ (Cert.DynRefIdeal.Pay.pay5 v (ix3 (blk t) (j 1) (j 2))).symm))
  have e : row t (j 2) = Cert.DynRefIdeal.Pay.row (blk t) (j 2) := Fin.ext rfl
  exact congrArg (fun r => scale2 (amax fun k : Fin 2048 => v (ix2 r k))) e

/-- The codes times the scales of block `t` are the reference's. -/
theorem at6 (v : Vec Ideal S2048x2048 .bf16) (hv : ∀ r : Fin 2048, (amax fun k => v (ix2 r k)) ≤ most) (X : Vec Ideal S256x2048 .bf16) (t : Fin cfg0.N)
    (h : ∀ j : S256x2048.Idx, X j = v (ix2 (row t (j 0)) (j 1))) (j : S256x2048.Idx) :
    k0_pay2 (F := Ideal) (k0_pay6 X) (k0_pay7 X) j = Cert.DynRefIdeal.Gen.k0_pay6 (F := Ideal) v (ix2 (row t (j 0)) (j 1)) :=
  (Pay.pay2 (k0_pay6 X) (k0_pay7 X) j).trans ((congrArg₂ mulE (codeOf v hv X t h j) (scaleOf v hv X t h (j 0))).trans
    (Cert.DynRefIdeal.Pay.pay6 v (ix2 (row t (j 0)) (j 1))).symm)

/-- The product's rows of block `t` are the reference's. -/
theorem at3 (w : Vec Ideal S3072x2048 .fp8e4m3) (z : Vec Ideal S_ .f32) (v : Vec Ideal S2048x2048 .bf16) (hv : ∀ r : Fin 2048, (amax fun k => v (ix2 r k)) ≤ most) (X : Vec Ideal S256x2048 .bf16) (t : Fin cfg0.N)
    (h : ∀ j : S256x2048.Idx, X j = v (ix2 (row t (j 0)) (j 1))) (j : S256x3072.Idx) :
    k0_pay3 (F := Ideal) (k0_pay6 X) (k0_pay7 X) w (shapeCast S1 z shapeCasts_S_S1 (ix1 0)) j = dyn v w z (ix2 (row t (j 0)) (j 1)) := by
  unfold dyn
  refine (Pay.pay3 (k0_pay6 X) (k0_pay7 X) w _ j).trans (Eq.trans ?_ (Cert.DynRefIdeal.Pay.pay1 v w (one z) (ix2 (row t (j 0)) (j 1))).symm)
  exact congrArg₂ mulE (congrArg₂ mulE (congrArg₂ dotE (funext fun k => at4 v hv X t h (ix2 (j 0) k)) rfl) (scaleOf v hv X t h (j 0))) (oneOf z)

/-- A block that reads `G` at its place is what the window's view reads of `G`. -/
theorem cut3 (t : Fin cfg0.N) (X : Vec Ideal S256x3072 .f32) (G : Vec Ideal S2048x3072 .f32)
    (h : ∀ j : S256x3072.Idx, X j = G (ix2 (row t (j 0)) (j 1))) :
    (cfg0.win 3).cut (grid0.coords t) X = ((cfg0.win 3).blk t).view.read (Elt Ideal) G := by
  funext j
  show X j = G (((cfg0.win 3).blk t).view.emb j)
  exact (h j).trans (congrArg G (emb3 t j).symm)

theorem cut4 (t : Fin cfg0.N) (X : Vec Ideal S256x2048 .fp8e5m2) (G : Vec Ideal S2048x2048 .fp8e5m2)
    (h : ∀ j : S256x2048.Idx, X j = G (ix2 (row t (j 0)) (j 1))) :
    (cfg0.win 4).cut (grid0.coords t) X = ((cfg0.win 4).blk t).view.read (Elt Ideal) G := by
  funext j
  show X j = G (((cfg0.win 4).blk t).view.emb j)
  exact (h j).trans (congrArg G (emb4 t j).symm)

theorem cut6 (t : Fin cfg0.N) (X : Vec Ideal S256x2048 .bf16) (G : Vec Ideal S2048x2048 .bf16)
    (h : ∀ j : S256x2048.Idx, X j = G (ix2 (row t (j 0)) (j 1))) :
    (cfg0.win 6).cut (grid0.coords t) X = ((cfg0.win 6).blk t).view.read (Elt Ideal) G := by
  funext j
  show X j = G (((cfg0.win 6).blk t).view.emb j)
  exact (h j).trans (congrArg G (emb6 t j).symm)

theorem cut5 (t : Fin cfg0.N) (X : Vec Ideal S1x1x256 .f32) (G : Vec Ideal S8x1x256 .f32)
    (h : ∀ j : S1x1x256.Idx, X j = G (ix3 (blk t) (j 1) (j 2))) :
    (cfg0.win 5).cut (grid0.coords t) X = ((cfg0.win 5).blk t).view.read (Elt Ideal) G := by
  funext j
  show X j = G (((cfg0.win 5).blk t).view.emb j)
  exact (h j).trans (congrArg G (emb5 t j).symm)

variable (hv : ∀ (c : Dev nD) (r : Fin 2048), (amax fun k => (m ((c : Thread nD τ).loc main_arg0) : Vec Ideal S2048x2048 .bf16) (ix2 r k)) ≤ most)
include hv

/-- What point `t` writes of the product is its part of the reference's. -/
theorem flushed3_eq (c : Dev nD) (t : Fin cfg0.N) : (dats m 0 c).flushed 3 t = ((cfg0.win 3).blk t).view.read (Elt Ideal)
    (dyn (m ((c : Thread nD τ).loc main_arg0)) (m ((c : Thread nD τ).loc main_arg1)) (m ((c : Thread nD τ).loc main_arg2))) := by
  rw [flushed3_A, Block.out3, iblk0, iblk2, entry0, V_main_arg1]
  exact cut3 t _ _ (at3 (m ((c : Thread nD τ).loc main_arg1)) (m ((c : Thread nD τ).loc main_arg2)) (m ((c : Thread nD τ).loc main_arg0)) (hv c) (iblk m c 1 t) t
    (fun j => (iblk1 m c t j).trans (congrFun (V_main_arg0 m c) _)))

/-- What point `t` writes of the codes is its part of the reference's. -/
theorem flushed4_eq (c : Dev nD) (t : Fin cfg0.N) : (dats m 0 c).flushed 4 t = ((cfg0.win 4).blk t).view.read (Elt Ideal)
    (Cert.DynRefIdeal.Gen.k0_pay4 (F := Ideal) (m ((c : Thread nD τ).loc main_arg0))) := by
  rw [flushed4_A, Block.out4]
  exact cut4 t _ _ (at4 (m ((c : Thread nD τ).loc main_arg0)) (hv c) (iblk m c 1 t) t
    (fun j => (iblk1 m c t j).trans (congrFun (V_main_arg0 m c) _)))

/-- What point `t` writes of the scales is its part of the reference's. -/
theorem flushed5_eq (c : Dev nD) (t : Fin cfg0.N) : (dats m 0 c).flushed 5 t = ((cfg0.win 5).blk t).view.read (Elt Ideal)
    (Cert.DynRefIdeal.Gen.k0_pay5 (F := Ideal) (m ((c : Thread nD τ).loc main_arg0))) := by
  rw [flushed5_A, Block.out5]
  exact cut5 t _ _ (at5 (m ((c : Thread nD τ).loc main_arg0)) (hv c) (iblk m c 1 t) t
    (fun j => (iblk1 m c t j).trans (congrFun (V_main_arg0 m c) _)))

/-- What point `t` writes of the codes times the scales is its part of the reference's. -/
theorem flushed6_eq (c : Dev nD) (t : Fin cfg0.N) : (dats m 0 c).flushed 6 t = ((cfg0.win 6).blk t).view.read (Elt Ideal)
    (Cert.DynRefIdeal.Gen.k0_pay6 (F := Ideal) (m ((c : Thread nD τ).loc main_arg0))) := by
  rw [flushed6_A, Block.out6]
  exact cut6 t _ _ (at6 (m ((c : Thread nD τ).loc main_arg0)) (hv c) (iblk m c 1 t) t
    (fun j => (iblk1 m c t j).trans (congrFun (V_main_arg0 m c) _)))

omit hv

theorem covered3 (i : S2048x3072.Idx) : ∃ t : Fin cfg0.N, (cfg0.win 3).flush t = true ∧ i ∈ ((cfg0.win 3).blk t).view.set := by
  have hi : (i 0).val < 2048 := (i 0).isLt
  refine ⟨(⟨(i 0).val / 256, by show _ < 8; omega⟩ : Fin cfg0.N), flush0_3 _, ?_⟩
  have h := ((cfg0.win 3).blk (⟨(i 0).val / 256, by show _ < 8; omega⟩ : Fin cfg0.N)).view.emb_mem_set
    (ix2 (⟨(i 0).val % 256, by omega⟩ : Fin 256) (i 1))
  rw [emb3] at h
  refine (congrArg (· ∈ _) (funext fun a => ?_)).mpr h
  match a with
  | ⟨0, _⟩ => apply Fin.ext; show (i 0).val = (i 0).val / 256 * 256 + (i 0).val % 256; omega
  | ⟨1, _⟩ => rfl

theorem covered4 (i : S2048x2048.Idx) : ∃ t : Fin cfg0.N, (cfg0.win 4).flush t = true ∧ i ∈ ((cfg0.win 4).blk t).view.set := by
  have hi : (i 0).val < 2048 := (i 0).isLt
  refine ⟨(⟨(i 0).val / 256, by show _ < 8; omega⟩ : Fin cfg0.N), flush0_4 _, ?_⟩
  have h := ((cfg0.win 4).blk (⟨(i 0).val / 256, by show _ < 8; omega⟩ : Fin cfg0.N)).view.emb_mem_set
    (ix2 (⟨(i 0).val % 256, by omega⟩ : Fin 256) (i 1))
  rw [emb4] at h
  refine (congrArg (· ∈ _) (funext fun a => ?_)).mpr h
  match a with
  | ⟨0, _⟩ => apply Fin.ext; show (i 0).val = (i 0).val / 256 * 256 + (i 0).val % 256; omega
  | ⟨1, _⟩ => rfl

theorem covered6 (i : S2048x2048.Idx) : ∃ t : Fin cfg0.N, (cfg0.win 6).flush t = true ∧ i ∈ ((cfg0.win 6).blk t).view.set := by
  have hi : (i 0).val < 2048 := (i 0).isLt
  refine ⟨(⟨(i 0).val / 256, by show _ < 8; omega⟩ : Fin cfg0.N), flush0_6 _, ?_⟩
  have h := ((cfg0.win 6).blk (⟨(i 0).val / 256, by show _ < 8; omega⟩ : Fin cfg0.N)).view.emb_mem_set
    (ix2 (⟨(i 0).val % 256, by omega⟩ : Fin 256) (i 1))
  rw [emb6] at h
  refine (congrArg (· ∈ _) (funext fun a => ?_)).mpr h
  match a with
  | ⟨0, _⟩ => apply Fin.ext; show (i 0).val = (i 0).val / 256 * 256 + (i 0).val % 256; omega
  | ⟨1, _⟩ => rfl

theorem covered5 (i : S8x1x256.Idx) : ∃ t : Fin cfg0.N, (cfg0.win 5).flush t = true ∧ i ∈ ((cfg0.win 5).blk t).view.set := by
  have hi : (i 0).val < 8 := (i 0).isLt
  refine ⟨(⟨(i 0).val, by show _ < 8; omega⟩ : Fin cfg0.N), flush0_5 _, ?_⟩
  have h := ((cfg0.win 5).blk (⟨(i 0).val, by show _ < 8; omega⟩ : Fin cfg0.N)).view.emb_mem_set (ix3 (0 : Fin 1) (i 1) (i 2))
  rw [emb5] at h
  refine (congrArg (· ∈ _) (funext fun a => ?_)).mpr h
  match a with
  | ⟨0, _⟩ => rfl
  | ⟨1, _⟩ => rfl
  | ⟨2, _⟩ => rfl

include hv

/-- The kernel's run on a finite gradient: its four results are the reference's functions of its arguments, and these are unchanged. -/
theorem run (ρ : Dev nD → PrngReg) : θ_run defs (onTc (τ := τ) (main (F := Ideal))) ⟨m, fun _ => 0, ρ⟩ fun r => ∀ c : Dev nD,
      r.2.mem ((c : Thread nD τ).loc main_v1_0)
          = dyn (m ((c : Thread nD τ).loc main_arg0)) (m ((c : Thread nD τ).loc main_arg1)) (m ((c : Thread nD τ).loc main_arg2))
      ∧ r.2.mem ((c : Thread nD τ).loc main_v1_1) = Cert.DynRefIdeal.Gen.k0_pay4 (F := Ideal) (m ((c : Thread nD τ).loc main_arg0))
      ∧ r.2.mem ((c : Thread nD τ).loc main_v1_2) = Cert.DynRefIdeal.Gen.k0_pay5 (F := Ideal) (m ((c : Thread nD τ).loc main_arg0))
      ∧ r.2.mem ((c : Thread nD τ).loc main_v1_3) = Cert.DynRefIdeal.Gen.k0_pay6 (F := Ideal) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans ((dats m 0 c).arrAt_eq_of_cover 3 _ (fun t _ => flushed3_eq m hv c t) covered3),
        (h c).2.1.trans ((dats m 0 c).arrAt_eq_of_cover 4 _ (fun t _ => flushed4_eq m hv c t) covered4),
        (h c).2.2.1.trans ((dats m 0 c).arrAt_eq_of_cover 5 _ (fun t _ => flushed5_eq m hv c t) covered5),
        (h c).2.2.2.1.trans ((dats m 0 c).arrAt_eq_of_cover 6 _ (fun t _ => flushed6_eq m hv c t) covered6), (h c).2.2.2.2⟩)
    (run_blocks m ρ)

end Cert.DynIdeal.Arrays

namespace Cert.DynClaims
open Cert.DynRefIdeal.Arrays (one dyn)

/-- The side conditions of the precondition. -/
theorem preFacts : Cert.Pre_dy_finite.Facts where
  bitsLt_bf16_f32 := by decide
  bcast_S_S2048x2048 := by decide
  reducesTo_S2048x2048_S_d0_1 := by decide
  h_S_ := by decide

/-- A gradient that meets the precondition has rows whose largest absolute values are bounded. -/
theorem bounded [hP : Cert.Pre_dy_finite.Facts] (v : FVec Ideal Cert.Pre_dy_finite.S2048x2048 .bf16) (w : FVec Ideal Cert.Pre_dy_finite.S3072x2048 .fp8e4m3)
    (z : FVec Ideal Cert.Pre_dy_finite.S_ .f32) (h : Cert.Pre_dy_finite.fn (F := Ideal) v w z = fun _ => 1#1) (r : Fin 2048) :
    (amax fun k => v (ix2 r k)) ≤ most := by
  haveI : Subsingleton Cert.Pre_dy_finite.S_.Idx := ⟨fun a b => funext fun k => k.elim0⟩
  refine amax_le _ _ fun k => ?_
  have e := Host.reduce_andi_all _ _ _ _ (fun a => a.elim0) (congrFun h (fun a => a.elim0)) (ix2 r k)
  change BitVec.ofBool (decide (FloatOps.absf (F := Ideal) (φ := .f32) (v (ix2 r k)) ≤ Ideal.ofBits .f32 0x7F7F0000#32)) = 1#1 at e
  unfold most
  by_contra hn
  rw [decide_eq_false hn] at e
  exact absurd e (by decide)

/-- The projection's input gradient, the codes of the gradient, their scales and their products: from the same finite arguments the
    kernel and the reference end with the same four arrays over the extended reals. -/
theorem algebraic [hK : Cert.DynIdeal.Facts] [hR : Cert.DynRefIdeal.Facts] [hP : Cert.Pre_dy_finite.Facts] :
    Cert.algebraic_DynIdeal_DynRefIdeal_pre_dy_finite := by
  intro m ρ m' ρ' hpre hagree
  refine ⟨fun c => dyn (m ((c : Thread Cert.DynIdeal.nD Cert.DynIdeal.τ).loc Cert.DynIdeal.main_arg0))
      (m ((c : Thread Cert.DynIdeal.nD Cert.DynIdeal.τ).loc Cert.DynIdeal.main_arg1)) (m ((c : Thread Cert.DynIdeal.nD Cert.DynIdeal.τ).loc Cert.DynIdeal.main_arg2)),
    fun c => Cert.DynRefIdeal.Gen.k0_pay4 (F := Ideal) (m ((c : Thread Cert.DynIdeal.nD Cert.DynIdeal.τ).loc Cert.DynIdeal.main_arg0)),
    fun c => Cert.DynRefIdeal.Gen.k0_pay5 (F := Ideal) (m ((c : Thread Cert.DynIdeal.nD Cert.DynIdeal.τ).loc Cert.DynIdeal.main_arg0)),
    fun c => Cert.DynRefIdeal.Gen.k0_pay6 (F := Ideal) (m ((c : Thread Cert.DynIdeal.nD Cert.DynIdeal.τ).loc Cert.DynIdeal.main_arg0)),
    Cert.DynIdeal.Arrays.run m (fun c r => bounded _ _ _ (hpre c) r) ρ, ?_⟩
  refine (θ_run Cert.DynRefIdeal.defs _ _).mono (fun _ h c => ?_) (Cert.DynRefIdeal.Arrays.run m' ρ')
  obtain ⟨h0, h1, h2, h3, h4⟩ := h c
  rw [(hagree c).1] at h0 h1 h2 h3
  rw [(hagree c).2.1, (hagree c).2.2] at h0
  exact ⟨h0, h1, h2, h3, h4⟩

end Cert.DynClaims

end
-- ==== Proof.lean ====
module

public import proofs.«01_k».proof.Defs
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwOutRefIdeal.Skeleton
public import proofs.«01_k».proof.Proof.Gen.DwOutRefIdeal.Launch
public import proofs.«01_k».proof.Proof.Gen.DwOutRefIdeal.Points
public import proofs.«01_k».proof.Proof.Gen.DwOutRefIdeal.Frame
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.DwQkvRefIdeal
public import proofs.«01_k».proof.Proof.Gen.DwQkvRefIdeal.Skeleton
public import proofs.«01_k».proof.Proof.Gen.DwQkvRefIdeal.Launch
public import proofs.«01_k».proof.Proof.Gen.DwQkvRefIdeal.Points
public import proofs.«01_k».proof.Proof.Gen.DwQkvRefIdeal.Frame
public import proofs.«01_k».proof.Proof.Gen.Dyn
public import proofs.«01_k».proof.Proof.Gen.Dyn.Skeleton
public import proofs.«01_k».proof.Proof.Gen.Dyn.Launch
public import proofs.«01_k».proof.Proof.Gen.Dyn.Points
public import proofs.«01_k».proof.Proof.Gen.Dyn.Frame
public import proofs.«01_k».proof.Proof.Gen.DynIdeal
public import proofs.«01_k».proof.Proof.Gen.DynIdeal.Skeleton
public import proofs.«01_k».proof.Proof.Gen.DynIdeal.Launch
public import proofs.«01_k».proof.Proof.Gen.DynIdeal.Points
public import proofs.«01_k».proof.Proof.Gen.DynIdeal.Frame
public import proofs.«01_k».proof.Proof.Gen.DynRefIdeal
public import proofs.«01_k».proof.Proof.Gen.DynRefIdeal.Skeleton
public import proofs.«01_k».proof.Proof.Gen.DynRefIdeal.Launch
public import proofs.«01_k».proof.Proof.Gen.DynRefIdeal.Points
public import proofs.«01_k».proof.Proof.Gen.DynRefIdeal.Frame
public import proofs.«01_k».proof.Proof.Gen.DxIdeal.Value
public import proofs.«01_k».proof.Proof.Gen.DxRefIdeal.Value
public import proofs.«01_k».proof.Proof.Gen.DwOutIdeal.Value
public import proofs.«01_k».proof.Proof.Gen.DwOutRefIdeal.Value
public import proofs.«01_k».proof.Proof.Gen.DwQkvRefIdeal.Value
public import proofs.«01_k».proof.Proof.Gen.DynIdeal.Value
public import proofs.«01_k».proof.Proof.Gen.DynRefIdeal.Value
public import proofs.«01_k».proof.Proof.DxValue
public import proofs.«01_k».proof.Proof.DwOutValue
public import proofs.«01_k».proof.Proof.DwQkvValue
public import proofs.«01_k».proof.Proof.DynValue
public import Idealize.ShloMosaic.Adequacy
public import Idealize.ShloMosaic.Init

@[expose] public section

noncomputable section

namespace Cert.Proof

open Idealize.ShloMosaic Idealize.SL.Sem Cert.Dx

/-- Everything the certificate claims. -/
theorem claim : Cert.Claim := ⟨Cert.Dx.Gen.facts, Cert.DxIdeal.Gen.facts, Cert.DxRefIdeal.Gen.facts, Cert.DwOut.Gen.facts, Cert.DwOutIdeal.Gen.facts, Cert.DwOutRefIdeal.Gen.facts,
  Cert.DwQkv.Gen.facts, Cert.DwQkvIdeal.Gen.facts, Cert.DwQkvRefIdeal.Gen.facts,
  Cert.Dyn.Gen.facts, Cert.DynIdeal.Gen.facts, Cert.DynRefIdeal.Gen.facts, Cert.DynClaims.preFacts,
  fun m ρ _ => Cert.Dx.Gen.frame m ρ,
  fun m ρ _ => Cert.DxIdeal.Gen.frame m ρ,
  fun m ρ _ => Cert.DxRefIdeal.Gen.frame m ρ,
  fun m ρ _ => Cert.DwOut.Gen.frame m ρ,
  fun m ρ _ => Cert.DwOutIdeal.Gen.frame m ρ,
  fun m ρ _ => Cert.DwOutRefIdeal.Gen.frame m ρ,
  fun m ρ _ => Cert.DwQkv.Gen.frame m ρ,
  fun m ρ _ => Cert.DwQkvIdeal.Gen.frame m ρ,
  fun m ρ _ => Cert.DwQkvRefIdeal.Gen.frame m ρ,
  fun m ρ _ => Cert.Dyn.Gen.frame m ρ,
  fun m ρ _ => Cert.DynIdeal.Gen.frame m ρ,
  fun m ρ _ => Cert.DynIdeal.Gen.frame m ρ,
  fun m ρ _ => Cert.DynRefIdeal.Gen.frame m ρ,
  fun m ρ _ => Cert.DynRefIdeal.Gen.frame m ρ,
  trivial, Cert.DxClaims.algebraic, trivial, Cert.DwOutClaims.algebraic, trivial, Cert.DwQkvClaims.algebraic, trivial, Cert.DynClaims.algebraic (hP := Cert.DynClaims.preFacts)⟩

end Cert.Proof

end
